-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S50000x256 : Shape := ⟨2, ![50000, 256]⟩
abbrev S50000 : Shape := ⟨1, ![50000]⟩
abbrev S10x256 : Shape := ⟨2, ![10, 256]⟩
abbrev S10 : Shape := ⟨1, ![10]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel

variable [Facts]

def fn {F : FTy → Type} [FloatOps F] (main_arg0 : FVec F S50000x256 .f32) (main_arg1 : IVec S50000 32) (main_arg2 : FVec F S10x256 .f32) (main_arg3 : FVec F S10 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  main_v5
-- ==== Pre_in_range_and_finite.lean ====
abbrev S50000x256 : Shape := ⟨2, ![50000, 256]⟩
abbrev S50000 : Shape := ⟨1, ![50000]⟩
abbrev S10x256 : Shape := ⟨2, ![10, 256]⟩
abbrev S10 : Shape := ⟨1, ![10]⟩
abbrev S_ : Shape := ⟨0, ![]⟩

class Facts : Prop where
  bcast_S_S50000 : S_.BroadcastsInDim S50000 (![] : Fin 0 → Fin S50000.rank)
  reducesTo_S50000_S_d0 : S50000.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_v15 : IVec S_ 1) (main_v16 : FVec F S10 .f32) : IVec S_ 1 :=
  let main_cst_5 : FVec F S_ .f32 := constant S_ .f32 0x7F800000#32
  let main_v17 : FVec F S10 .f32 := broadcastInDim S10 ![] bcast_S_S10 main_cst_5
  let main_v18 : IVec S10 1 := cmpf .olt main_v16 main_v17
  let main_c_6 : IVec S_ 1 := constantI S_ 1 1#1
  let main_v19 : IVec S_ 1 := (fun x v => Host.reduce IntOp.andi x v reducesTo_S10_S_d0 h_S_) main_v18 main_c_6
  let main_v20 : IVec S_ 1 := andi main_v15 main_v19
  main_v20

def fn {F : FTy → Type} [FloatOps F] (main_arg0 : FVec F S50000x256 .f32) (main_arg1 : IVec S50000 32) (main_arg2 : FVec F S10x256 .f32) (main_arg3 : FVec F S10 .f32) : IVec S_ 1 :=
  let main_c : IVec S_ 32 := constantI S_ 32 0#32
  let main_v0 : IVec S50000 32 := broadcastInDim S50000 ![] bcast_S_S50000 main_c
  let main_v1 : IVec S50000 1 := cmpi .sge main_arg1 main_v0
  let main_c_0 : IVec S_ 32 := constantI S_ 32 512#32
  let main_v2 : IVec S50000 32 := broadcastInDim S50000 ![] bcast_S_S50000 main_c_0
  let main_v3 : IVec S50000 1 := cmpi .slt main_arg1 main_v2
  let main_v4 : IVec S50000 1 := andi main_v1 main_v3
  let main_c_1 : IVec S_ 1 := constantI S_ 1 1#1
  let main_v5 : IVec S_ 1 := (fun x v => Host.reduce IntOp.andi x v reducesTo_S50000_S_d0 h_S_) main_v4 main_c_1
  let main_v6 : FVec F S50000x256 .f32 := Host.absf main_arg0
  let main_cst : FVec F S_ .f32 := constant S_ .f32 0x7F800000#32
  let main_v7 : FVec F S50000x256 .f32 := broadcastInDim S50000x256 ![] bcast_S_S50000x256 main_cst
  let main_v8 : IVec S50000x256 1 := cmpf .olt main_v6 main_v7
  let main_c_2 : IVec S_ 1 := constantI S_ 1 1#1
  let main_v9 : IVec S_ 1 := (fun x v => Host.reduce IntOp.andi x v reducesTo_S50000x256_S_d0_1 h_S_) main_v8 main_c_2
  let main_v10 : IVec S_ 1 := andi main_v5 main_v9
  let main_v11 : FVec F S10x256 .f32 := Host.absf main_arg2
  let main_cst_3 : FVec F S_ .f32 := constant S_ .f32 0x7F800000#32
  let main_v12 : FVec F S10x256 .f32 := broadcastInDim S10x256 ![] bcast_S_S10x256 main_cst_3
  let main_v13 : IVec S10x256 1 := cmpf .olt main_v11 main_v12
  let main_c_4 : IVec S_ 1 := constantI S_ 1 1#1
  let main_v14 : IVec S_ 1 := (fun x v => Host.reduce IntOp.andi x v reducesTo_S10x256_S_d0_1 h_S_) main_v13 main_c_4
  let main_v15 : IVec S_ 1 := andi main_v10 main_v14
  let main_v16 : FVec F S10 .f32 := Host.absf main_arg3
  fn_part1 (F := F) main_v15 main_v16
-- ==== Kernel.lean ====
abbrev S50000x256 : Shape := ⟨2, ![50000, 256]⟩
abbrev S50000 : Shape := ⟨1, ![50000]⟩
abbrev S10x256 : Shape := ⟨2, ![10, 256]⟩
abbrev S10 : Shape := ⟨1, ![10]⟩
abbrev S16x512x256 : Shape := ⟨3, ![16, 512, 256]⟩
abbrev S80x128 : Shape := ⟨2, ![80, 128]⟩
abbrev S80 : Shape := ⟨1, ![80]⟩
abbrev S512x128 : Shape := ⟨2, ![512, 128]⟩
abbrev S16 : Shape := ⟨1, ![16]⟩
abbrev S1x16 : Shape := ⟨2, ![1, 16]⟩
abbrev S_ : Shape := ⟨0, ![]⟩
abbrev S1 : Shape := ⟨1, ![1]⟩
abbrev S1x512x128 : Shape := ⟨3, ![1, 512, 128]⟩
abbrev S1x10 : Shape := ⟨2, ![1, 10]⟩
abbrev S512x10 : Shape := ⟨2, ![512, 10]⟩
abbrev S512x256 : Shape := ⟨2, ![512, 256]⟩
abbrev S512 : Shape := ⟨1, ![512]⟩
abbrev S512x1 : Shape := ⟨2, ![512, 1]⟩

abbrev nBuf : Table → Nat
  | .hbm => 7
  | .local .tc .vmem => 4
  | .local .scVector .vmem => 3
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S10x256, .f32⟩
  | .hbm, ⟨3, _⟩ => ⟨S10, .f32⟩
  | .hbm, ⟨4, _⟩ => ⟨S16x512x256, .f32⟩
  | .hbm, ⟨5, _⟩ => ⟨S1x10, .f32⟩
  | .hbm, ⟨6, _⟩ => ⟨S512x10, .f32⟩
  | .local .tc .vmem, ⟨0, _⟩ => ⟨S16x512x256, .f32⟩
  | .local .tc .vmem, ⟨1, _⟩ => ⟨S10x256, .f32⟩
  | .local .tc .vmem, ⟨2, _⟩ => ⟨S1x10, .f32⟩
  | .local .tc .vmem, ⟨3, _⟩ => ⟨S512x10, .f32⟩
  | .local .scVector .vmem, ⟨0, _⟩ => ⟨S80x128, .f32⟩
  | .local .scVector .vmem, ⟨1, _⟩ => ⟨S80, .i32⟩
  | .local .scVector .vmem, ⟨2, _⟩ => ⟨S512x128, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_10 : BitVec 32 := 0#32
  let c512_i32 : BitVec 32 := 512#32
  let v30 : BitVec 32 := Scalar.addi c0_i32_10 c512_i32
  let c1_i32_11 : BitVec 32 := 1#32
  ⟨c0_i32_10, v30, c1_i32_11⟩
@[reducible] def k0_t2_loop : Scf.Loop 32 :=
  let c0_i32_18 : BitVec 32 := 0#32
  let c8_i32 : BitVec 32 := 8#32
  let v35 : BitVec 32 := Scalar.addi c0_i32_18 c8_i32
  let c1_i32_19 : BitVec 32 := 1#32
  ⟨c0_i32_18, v35, c1_i32_19⟩
def k0_off1 (k0_t1 : Fin k0_t1_loop.trips) (k0_t2 : Fin k0_t2_loop.trips) : Fin 2 → Nat :=
  let c0_i32_17 : BitVec 32 := 0#32
  let c0_i32_10 : BitVec 32 := 0#32
  let c1_i32_11 : BitVec 32 := 1#32
  let arg8 : BitVec 32 := Scf.iv c0_i32_10 c1_i32_11 k0_t1
  let c1_i32_16 : BitVec 32 := 1#32
  let v33 : BitVec 32 := Scalar.muli arg8 c1_i32_16
  let v34 : BitVec 32 := Scalar.addi c0_i32_17 v33
  let v39 : Index := Scalar.indexCast v34
  let c0_i32_22 : BitVec 32 := 0#32
  let c0_i32_18 : BitVec 32 := 0#32
  let c1_i32_19 : BitVec 32 := 1#32
  let arg9 : BitVec 32 := Scf.iv c0_i32_18 c1_i32_19 k0_t2
  let c16_i32_21 : BitVec 32 := 16#32
  let v36 : BitVec 32 := Scalar.muli arg9 c16_i32_21
  let v37 : BitVec 32 := Scalar.addi c0_i32_22 v36
  let v40 : Index := Scalar.indexCast v37
  ![v39.toNat, v40.toNat]
@[reducible] def k0_t3_loop : Scf.Loop 32 :=
  let c0_i32_13 : BitVec 32 := 0#32
  let c40_i32 : BitVec 32 := 40#32
  let v32 : BitVec 32 := Scalar.addi c0_i32_13 c40_i32
  let c1_i32_14 : BitVec 32 := 1#32
  ⟨c0_i32_13, v32, c1_i32_14⟩
def k0_cond1 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32_18 : BitVec 32 := 16#32
  let c0_i32_17 : BitVec 32 := 0#32
  let c0_i32_13 : BitVec 32 := 0#32
  let c1_i32_14 : BitVec 32 := 1#32
  let arg8 : BitVec 32 := Scf.iv c0_i32_13 c1_i32_14 k0_t3
  let c1_i32_16 : BitVec 32 := 1#32
  let v33 : BitVec 32 := Scalar.muli arg8 c1_i32_16
  let v34 : BitVec 32 := Scalar.addi c0_i32_17 v33
  let v35 : BitVec 32 := Scalar.muli c16_i32_18 v34
  let v36 : BitVec 32 := Scalar.addi v11 v35
  let c625_i32 : BitVec 32 := 625#32
  let v37 : BitVec 1 := Scalar.cmpi .slt v36 c625_i32
  let v38 : BitVec 32 := Scalar.extui v37
  let c0_i32_19 : BitVec 32 := 0#32
  let v39 : BitVec 1 := Scalar.cmpi .ne v38 c0_i32_19
  v39

def k0_off2 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32_18 : BitVec 32 := 16#32
  let c0_i32_17 : BitVec 32 := 0#32
  let c0_i32_13 : BitVec 32 := 0#32
  let c1_i32_14 : BitVec 32 := 1#32
  let arg8 : BitVec 32 := Scf.iv c0_i32_13 c1_i32_14 k0_t3
  let c1_i32_16 : BitVec 32 := 1#32
  let v33 : BitVec 32 := Scalar.muli arg8 c1_i32_16
  let v34 : BitVec 32 := Scalar.addi c0_i32_17 v33
  let v35 : BitVec 32 := Scalar.muli c16_i32_18 v34
  let v36 : BitVec 32 := Scalar.addi v11 v35
  let c80_i32 : BitVec 32 := 80#32
  let v40 : BitVec 32 := Scalar.muli v36 c80_i32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c128_i32 : BitVec 32 := 128#32
  let v29 : BitVec 32 := Scalar.muli v28 c128_i32
  ![v40.toNat, v29.toNat]
def k0_off3 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c16_i32_18 : BitVec 32 := 16#32
  let c0_i32_17 : BitVec 32 := 0#32
  let c0_i32_13 : BitVec 32 := 0#32
  let c1_i32_14 : BitVec 32 := 1#32
  let arg8 : BitVec 32 := Scf.iv c0_i32_13 c1_i32_14 k0_t3
  let c1_i32_16 : BitVec 32 := 1#32
  let v33 : BitVec 32 := Scalar.muli arg8 c1_i32_16
  let v34 : BitVec 32 := Scalar.addi c0_i32_17 v33
  let v35 : BitVec 32 := Scalar.muli c16_i32_18 v34
  let v36 : BitVec 32 := Scalar.addi v11 v35
  let c80_i32 : BitVec 32 := 80#32
  let v40 : BitVec 32 := Scalar.muli v36 c80_i32
  ![v40.toNat]
@[reducible] def k0_t4_loop : Scf.Loop 32 :=
  let c0_i32_20 : BitVec 32 := 0#32
  let c5_i32 : BitVec 32 := 5#32
  let v41 : BitVec 32 := Scalar.addi c0_i32_20 c5_i32
  let c1_i32_21 : BitVec 32 := 1#32
  ⟨c0_i32_20, v41, c1_i32_21⟩
def k0_off4 (k0_t4 : Fin k0_t4_loop.trips) : Fin 1 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let v44 : Index := Scalar.indexCast v43
  ![v44.toNat]
def k0_off5 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_26 : BitVec 32 := 0#32
  let v51 : BitVec 32 := Scalar.addi v43 c0_i32_26
  let v52 : Index := Scalar.indexCast v51
  let c0 : Index := 0#32
  ![v52.toNat, 0]

def k0_chk1 (i : grid0.Coords) (k0_t3 : Fin k0_t3_loop.trips) (v48 : IVec S16 32) (v50 : IVec S16 32) : Prop :=
  (∀ (k0_h1 : k0_cond1 i k0_t3 = 1#1), ∀ a x, ((![v48, v50] : Fin 2 → IVec S16 32) a x).toNat < S512x128.size a)
theorem k0_idx1_inb : ∀ (i : grid0.Coords) (k0_t3 : Fin k0_t3_loop.trips) (v48 : IVec S16 32) (v50 : IVec S16 32) (k0_hw1 : k0_chk1 i k0_t3 v48 v50), ∀ (k0_h1 : k0_cond1 i k0_t3 = 1#1), ∀ a x, ((![v48, v50] : Fin 2 → IVec S16 32) a x).toNat < S512x128.size a := fun i k0_t3 v48 v50 k0_hw1 k0_h1 => k0_hw1 k0_h1
def k0_off6 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_28 : BitVec 32 := 0#32
  let v56 : BitVec 32 := Scalar.addi v43 c0_i32_28
  let v57 : Index := Scalar.indexCast v56
  let c16 : Index := 16#32
  ![v57.toNat, 16]

def k0_chk2 (i : grid0.Coords) (k0_t3 : Fin k0_t3_loop.trips) (v48 : IVec S16 32) (v55 : IVec S16 32) : Prop :=
  (∀ (k0_h1 : k0_cond1 i k0_t3 = 1#1), ∀ a x, ((![v48, v55] : Fin 2 → IVec S16 32) a x).toNat < S512x128.size a)
theorem k0_idx2_inb : ∀ (i : grid0.Coords) (k0_t3 : Fin k0_t3_loop.trips) (v48 : IVec S16 32) (v55 : IVec S16 32) (k0_hw2 : k0_chk2 i k0_t3 v48 v55), ∀ (k0_h1 : k0_cond1 i k0_t3 = 1#1), ∀ a x, ((![v48, v55] : Fin 2 → IVec S16 32) a x).toNat < S512x128.size a := fun i k0_t3 v48 v55 k0_hw2 k0_h1 => k0_hw2 k0_h1
def k0_off7 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_29 : BitVec 32 := 0#32
  let v61 : BitVec 32 := Scalar.addi v43 c0_i32_29
  let v62 : Index := Scalar.indexCast v61
  let c32 : Index := 32#32
  ![v62.toNat, 32]

def k0_chk3 (i : grid0.Coords) (k0_t3 : Fin k0_t3_loop.trips) (v48 : IVec S16 32) (v60 : IVec S16 32) : Prop :=
  (∀ (k0_h1 : k0_cond1 i k0_t3 = 1#1), ∀ a x, ((![v48, v60] : Fin 2 → IVec S16 32) a x).toNat < S512x128.size a)
theorem k0_idx3_inb : ∀ (i : grid0.Coords) (k0_t3 : Fin k0_t3_loop.trips) (v48 : IVec S16 32) (v60 : IVec S16 32) (k0_hw3 : k0_chk3 i k0_t3 v48 v60), ∀ (k0_h1 : k0_cond1 i k0_t3 = 1#1), ∀ a x, ((![v48, v60] : Fin 2 → IVec S16 32) a x).toNat < S512x128.size a := fun i k0_t3 v48 v60 k0_hw3 k0_h1 => k0_hw3 k0_h1
def k0_off8 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_30 : BitVec 32 := 0#32
  let v66 : BitVec 32 := Scalar.addi v43 c0_i32_30
  let v67 : Index := Scalar.indexCast v66
  let c48 : Index := 48#32
  ![v67.toNat, 48]

def k0_chk4 (i : grid0.Coords) (k0_t3 : Fin k0_t3_loop.trips) (v48 : IVec S16 32) (v65 : IVec S16 32) : Prop :=
  (∀ (k0_h1 : k0_cond1 i k0_t3 = 1#1), ∀ a x, ((![v48, v65] : Fin 2 → IVec S16 32) a x).toNat < S512x128.size a)
theorem k0_idx4_inb : ∀ (i : grid0.Coords) (k0_t3 : Fin k0_t3_loop.trips) (v48 : IVec S16 32) (v65 : IVec S16 32) (k0_hw4 : k0_chk4 i k0_t3 v48 v65), ∀ (k0_h1 : k0_cond1 i k0_t3 = 1#1), ∀ a x, ((![v48, v65] : Fin 2 → IVec S16 32) a x).toNat < S512x128.size a := fun i k0_t3 v48 v65 k0_hw4 k0_h1 => k0_hw4 k0_h1
def k0_off9 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_31 : BitVec 32 := 0#32
  let v71 : BitVec 32 := Scalar.addi v43 c0_i32_31
  let v72 : Index := Scalar.indexCast v71
  let c64 : Index := 64#32
  ![v72.toNat, 64]

def k0_chk5 (i : grid0.Coords) (k0_t3 : Fin k0_t3_loop.trips) (v48 : IVec S16 32) (v70 : IVec S16 32) : Prop :=
  (∀ (k0_h1 : k0_cond1 i k0_t3 = 1#1), ∀ a x, ((![v48, v70] : Fin 2 → IVec S16 32) a x).toNat < S512x128.size a)
theorem k0_idx5_inb : ∀ (i : grid0.Coords) (k0_t3 : Fin k0_t3_loop.trips) (v48 : IVec S16 32) (v70 : IVec S16 32) (k0_hw5 : k0_chk5 i k0_t3 v48 v70), ∀ (k0_h1 : k0_cond1 i k0_t3 = 1#1), ∀ a x, ((![v48, v70] : Fin 2 → IVec S16 32) a x).toNat < S512x128.size a := fun i k0_t3 v48 v70 k0_hw5 k0_h1 => k0_hw5 k0_h1
def k0_off10 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_33 : BitVec 32 := 0#32
  let v76 : BitVec 32 := Scalar.addi v43 c0_i32_33
  let v77 : Index := Scalar.indexCast v76
  let c80 : Index := 80#32
  ![v77.toNat, 80]

def k0_chk6 (i : grid0.Coords) (k0_t3 : Fin k0_t3_loop.trips) (v48 : IVec S16 32) (v75 : IVec S16 32) : Prop :=
  (∀ (k0_h1 : k0_cond1 i k0_t3 = 1#1), ∀ a x, ((![v48, v75] : Fin 2 → IVec S16 32) a x).toNat < S512x128.size a)
theorem k0_idx6_inb : ∀ (i : grid0.Coords) (k0_t3 : Fin k0_t3_loop.trips) (v48 : IVec S16 32) (v75 : IVec S16 32) (k0_hw6 : k0_chk6 i k0_t3 v48 v75), ∀ (k0_h1 : k0_cond1 i k0_t3 = 1#1), ∀ a x, ((![v48, v75] : Fin 2 → IVec S16 32) a x).toNat < S512x128.size a := fun i k0_t3 v48 v75 k0_hw6 k0_h1 => k0_hw6 k0_h1
def k0_off11 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_34 : BitVec 32 := 0#32
  let v81 : BitVec 32 := Scalar.addi v43 c0_i32_34
  let v82 : Index := Scalar.indexCast v81
  let c96 : Index := 96#32
  ![v82.toNat, 96]

def k0_chk7 (i : grid0.Coords) (k0_t3 : Fin k0_t3_loop.trips) (v48 : IVec S16 32) (v80 : IVec S16 32) : Prop :=
  (∀ (k0_h1 : k0_cond1 i k0_t3 = 1#1), ∀ a x, ((![v48, v80] : Fin 2 → IVec S16 32) a x).toNat < S512x128.size a)
theorem k0_idx7_inb : ∀ (i : grid0.Coords) (k0_t3 : Fin k0_t3_loop.trips) (v48 : IVec S16 32) (v80 : IVec S16 32) (k0_hw7 : k0_chk7 i k0_t3 v48 v80), ∀ (k0_h1 : k0_cond1 i k0_t3 = 1#1), ∀ a x, ((![v48, v80] : Fin 2 → IVec S16 32) a x).toNat < S512x128.size a := fun i k0_t3 v48 v80 k0_hw7 k0_h1 => k0_hw7 k0_h1
def k0_off12 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c0_i32_35 : BitVec 32 := 0#32
  let v86 : BitVec 32 := Scalar.addi v43 c0_i32_35
  let v87 : Index := Scalar.indexCast v86
  let c112 : Index := 112#32
  ![v87.toNat, 112]

def k0_chk8 (i : grid0.Coords) (k0_t3 : Fin k0_t3_loop.trips) (v48 : IVec S16 32) (v85 : IVec S16 32) : Prop :=
  (∀ (k0_h1 : k0_cond1 i k0_t3 = 1#1), ∀ a x, ((![v48, v85] : Fin 2 → IVec S16 32) a x).toNat < S512x128.size a)
theorem k0_idx8_inb : ∀ (i : grid0.Coords) (k0_t3 : Fin k0_t3_loop.trips) (v48 : IVec S16 32) (v85 : IVec S16 32) (k0_hw8 : k0_chk8 i k0_t3 v48 v85), ∀ (k0_h1 : k0_cond1 i k0_t3 = 1#1), ∀ a x, ((![v48, v85] : Fin 2 → IVec S16 32) a x).toNat < S512x128.size a := fun i k0_t3 v48 v85 k0_hw8 k0_h1 => k0_hw8 k0_h1
def k0_off13 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_37 : BitVec 32 := 1#32
  let v94 : BitVec 32 := Scalar.addi v43 c1_i32_37
  let v95 : Index := Scalar.indexCast v94
  let c0_38 : Index := 0#32
  ![v95.toNat, 0]

def k0_chk9 (i : grid0.Coords) (k0_t3 : Fin k0_t3_loop.trips) (v91 : IVec S16 32) (v93 : IVec S16 32) : Prop :=
  (∀ (k0_h1 : k0_cond1 i k0_t3 = 1#1), ∀ a x, ((![v91, v93] : Fin 2 → IVec S16 32) a x).toNat < S512x128.size a)
theorem k0_idx9_inb : ∀ (i : grid0.Coords) (k0_t3 : Fin k0_t3_loop.trips) (v91 : IVec S16 32) (v93 : IVec S16 32) (k0_hw9 : k0_chk9 i k0_t3 v91 v93), ∀ (k0_h1 : k0_cond1 i k0_t3 = 1#1), ∀ a x, ((![v91, v93] : Fin 2 → IVec S16 32) a x).toNat < S512x128.size a := fun i k0_t3 v91 v93 k0_hw9 k0_h1 => k0_hw9 k0_h1
def k0_off14 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_40 : BitVec 32 := 1#32
  let v99 : BitVec 32 := Scalar.addi v43 c1_i32_40
  let v100 : Index := Scalar.indexCast v99
  let c16_41 : Index := 16#32
  ![v100.toNat, 16]

def k0_chk10 (i : grid0.Coords) (k0_t3 : Fin k0_t3_loop.trips) (v91 : IVec S16 32) (v98 : IVec S16 32) : Prop :=
  (∀ (k0_h1 : k0_cond1 i k0_t3 = 1#1), ∀ a x, ((![v91, v98] : Fin 2 → IVec S16 32) a x).toNat < S512x128.size a)
theorem k0_idx10_inb : ∀ (i : grid0.Coords) (k0_t3 : Fin k0_t3_loop.trips) (v91 : IVec S16 32) (v98 : IVec S16 32) (k0_hw10 : k0_chk10 i k0_t3 v91 v98), ∀ (k0_h1 : k0_cond1 i k0_t3 = 1#1), ∀ a x, ((![v91, v98] : Fin 2 → IVec S16 32) a x).toNat < S512x128.size a := fun i k0_t3 v91 v98 k0_hw10 k0_h1 => k0_hw10 k0_h1
def k0_off15 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_43 : BitVec 32 := 1#32
  let v104 : BitVec 32 := Scalar.addi v43 c1_i32_43
  let v105 : Index := Scalar.indexCast v104
  let c32_44 : Index := 32#32
  ![v105.toNat, 32]

def k0_chk11 (i : grid0.Coords) (k0_t3 : Fin k0_t3_loop.trips) (v91 : IVec S16 32) (v103 : IVec S16 32) : Prop :=
  (∀ (k0_h1 : k0_cond1 i k0_t3 = 1#1), ∀ a x, ((![v91, v103] : Fin 2 → IVec S16 32) a x).toNat < S512x128.size a)
theorem k0_idx11_inb : ∀ (i : grid0.Coords) (k0_t3 : Fin k0_t3_loop.trips) (v91 : IVec S16 32) (v103 : IVec S16 32) (k0_hw11 : k0_chk11 i k0_t3 v91 v103), ∀ (k0_h1 : k0_cond1 i k0_t3 = 1#1), ∀ a x, ((![v91, v103] : Fin 2 → IVec S16 32) a x).toNat < S512x128.size a := fun i k0_t3 v91 v103 k0_hw11 k0_h1 => k0_hw11 k0_h1
def k0_off16 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_46 : BitVec 32 := 1#32
  let v109 : BitVec 32 := Scalar.addi v43 c1_i32_46
  let v110 : Index := Scalar.indexCast v109
  let c48_47 : Index := 48#32
  ![v110.toNat, 48]

def k0_chk12 (i : grid0.Coords) (k0_t3 : Fin k0_t3_loop.trips) (v91 : IVec S16 32) (v108 : IVec S16 32) : Prop :=
  (∀ (k0_h1 : k0_cond1 i k0_t3 = 1#1), ∀ a x, ((![v91, v108] : Fin 2 → IVec S16 32) a x).toNat < S512x128.size a)
theorem k0_idx12_inb : ∀ (i : grid0.Coords) (k0_t3 : Fin k0_t3_loop.trips) (v91 : IVec S16 32) (v108 : IVec S16 32) (k0_hw12 : k0_chk12 i k0_t3 v91 v108), ∀ (k0_h1 : k0_cond1 i k0_t3 = 1#1), ∀ a x, ((![v91, v108] : Fin 2 → IVec S16 32) a x).toNat < S512x128.size a := fun i k0_t3 v91 v108 k0_hw12 k0_h1 => k0_hw12 k0_h1
def k0_off17 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_49 : BitVec 32 := 1#32
  let v114 : BitVec 32 := Scalar.addi v43 c1_i32_49
  let v115 : Index := Scalar.indexCast v114
  let c64_50 : Index := 64#32
  ![v115.toNat, 64]

def k0_chk13 (i : grid0.Coords) (k0_t3 : Fin k0_t3_loop.trips) (v91 : IVec S16 32) (v113 : IVec S16 32) : Prop :=
  (∀ (k0_h1 : k0_cond1 i k0_t3 = 1#1), ∀ a x, ((![v91, v113] : Fin 2 → IVec S16 32) a x).toNat < S512x128.size a)
theorem k0_idx13_inb : ∀ (i : grid0.Coords) (k0_t3 : Fin k0_t3_loop.trips) (v91 : IVec S16 32) (v113 : IVec S16 32) (k0_hw13 : k0_chk13 i k0_t3 v91 v113), ∀ (k0_h1 : k0_cond1 i k0_t3 = 1#1), ∀ a x, ((![v91, v113] : Fin 2 → IVec S16 32) a x).toNat < S512x128.size a := fun i k0_t3 v91 v113 k0_hw13 k0_h1 => k0_hw13 k0_h1
def k0_off18 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_52 : BitVec 32 := 1#32
  let v119 : BitVec 32 := Scalar.addi v43 c1_i32_52
  let v120 : Index := Scalar.indexCast v119
  let c80_53 : Index := 80#32
  ![v120.toNat, 80]

def k0_chk14 (i : grid0.Coords) (k0_t3 : Fin k0_t3_loop.trips) (v91 : IVec S16 32) (v118 : IVec S16 32) : Prop :=
  (∀ (k0_h1 : k0_cond1 i k0_t3 = 1#1), ∀ a x, ((![v91, v118] : Fin 2 → IVec S16 32) a x).toNat < S512x128.size a)
theorem k0_idx14_inb : ∀ (i : grid0.Coords) (k0_t3 : Fin k0_t3_loop.trips) (v91 : IVec S16 32) (v118 : IVec S16 32) (k0_hw14 : k0_chk14 i k0_t3 v91 v118), ∀ (k0_h1 : k0_cond1 i k0_t3 = 1#1), ∀ a x, ((![v91, v118] : Fin 2 → IVec S16 32) a x).toNat < S512x128.size a := fun i k0_t3 v91 v118 k0_hw14 k0_h1 => k0_hw14 k0_h1
def k0_off19 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_55 : BitVec 32 := 1#32
  let v124 : BitVec 32 := Scalar.addi v43 c1_i32_55
  let v125 : Index := Scalar.indexCast v124
  let c96_56 : Index := 96#32
  ![v125.toNat, 96]

def k0_chk15 (i : grid0.Coords) (k0_t3 : Fin k0_t3_loop.trips) (v91 : IVec S16 32) (v123 : IVec S16 32) : Prop :=
  (∀ (k0_h1 : k0_cond1 i k0_t3 = 1#1), ∀ a x, ((![v91, v123] : Fin 2 → IVec S16 32) a x).toNat < S512x128.size a)
theorem k0_idx15_inb : ∀ (i : grid0.Coords) (k0_t3 : Fin k0_t3_loop.trips) (v91 : IVec S16 32) (v123 : IVec S16 32) (k0_hw15 : k0_chk15 i k0_t3 v91 v123), ∀ (k0_h1 : k0_cond1 i k0_t3 = 1#1), ∀ a x, ((![v91, v123] : Fin 2 → IVec S16 32) a x).toNat < S512x128.size a := fun i k0_t3 v91 v123 k0_hw15 k0_h1 => k0_hw15 k0_h1
def k0_off20 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c1_i32_58 : BitVec 32 := 1#32
  let v129 : BitVec 32 := Scalar.addi v43 c1_i32_58
  let v130 : Index := Scalar.indexCast v129
  let c112_59 : Index := 112#32
  ![v130.toNat, 112]

def k0_chk16 (i : grid0.Coords) (k0_t3 : Fin k0_t3_loop.trips) (v91 : IVec S16 32) (v128 : IVec S16 32) : Prop :=
  (∀ (k0_h1 : k0_cond1 i k0_t3 = 1#1), ∀ a x, ((![v91, v128] : Fin 2 → IVec S16 32) a x).toNat < S512x128.size a)
theorem k0_idx16_inb : ∀ (i : grid0.Coords) (k0_t3 : Fin k0_t3_loop.trips) (v91 : IVec S16 32) (v128 : IVec S16 32) (k0_hw16 : k0_chk16 i k0_t3 v91 v128), ∀ (k0_h1 : k0_cond1 i k0_t3 = 1#1), ∀ a x, ((![v91, v128] : Fin 2 → IVec S16 32) a x).toNat < S512x128.size a := fun i k0_t3 v91 v128 k0_hw16 k0_h1 => k0_hw16 k0_h1
def k0_off21 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_61 : BitVec 32 := 2#32
  let v137 : BitVec 32 := Scalar.addi v43 c2_i32_61
  let v138 : Index := Scalar.indexCast v137
  let c0_62 : Index := 0#32
  ![v138.toNat, 0]

def k0_chk17 (i : grid0.Coords) (k0_t3 : Fin k0_t3_loop.trips) (v134 : IVec S16 32) (v136 : IVec S16 32) : Prop :=
  (∀ (k0_h1 : k0_cond1 i k0_t3 = 1#1), ∀ a x, ((![v134, v136] : Fin 2 → IVec S16 32) a x).toNat < S512x128.size a)
theorem k0_idx17_inb : ∀ (i : grid0.Coords) (k0_t3 : Fin k0_t3_loop.trips) (v134 : IVec S16 32) (v136 : IVec S16 32) (k0_hw17 : k0_chk17 i k0_t3 v134 v136), ∀ (k0_h1 : k0_cond1 i k0_t3 = 1#1), ∀ a x, ((![v134, v136] : Fin 2 → IVec S16 32) a x).toNat < S512x128.size a := fun i k0_t3 v134 v136 k0_hw17 k0_h1 => k0_hw17 k0_h1
def k0_off22 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_64 : BitVec 32 := 2#32
  let v142 : BitVec 32 := Scalar.addi v43 c2_i32_64
  let v143 : Index := Scalar.indexCast v142
  let c16_65 : Index := 16#32
  ![v143.toNat, 16]

def k0_chk18 (i : grid0.Coords) (k0_t3 : Fin k0_t3_loop.trips) (v134 : IVec S16 32) (v141 : IVec S16 32) : Prop :=
  (∀ (k0_h1 : k0_cond1 i k0_t3 = 1#1), ∀ a x, ((![v134, v141] : Fin 2 → IVec S16 32) a x).toNat < S512x128.size a)
theorem k0_idx18_inb : ∀ (i : grid0.Coords) (k0_t3 : Fin k0_t3_loop.trips) (v134 : IVec S16 32) (v141 : IVec S16 32) (k0_hw18 : k0_chk18 i k0_t3 v134 v141), ∀ (k0_h1 : k0_cond1 i k0_t3 = 1#1), ∀ a x, ((![v134, v141] : Fin 2 → IVec S16 32) a x).toNat < S512x128.size a := fun i k0_t3 v134 v141 k0_hw18 k0_h1 => k0_hw18 k0_h1
def k0_off23 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_67 : BitVec 32 := 2#32
  let v147 : BitVec 32 := Scalar.addi v43 c2_i32_67
  let v148 : Index := Scalar.indexCast v147
  let c32_68 : Index := 32#32
  ![v148.toNat, 32]

def k0_chk19 (i : grid0.Coords) (k0_t3 : Fin k0_t3_loop.trips) (v134 : IVec S16 32) (v146 : IVec S16 32) : Prop :=
  (∀ (k0_h1 : k0_cond1 i k0_t3 = 1#1), ∀ a x, ((![v134, v146] : Fin 2 → IVec S16 32) a x).toNat < S512x128.size a)
theorem k0_idx19_inb : ∀ (i : grid0.Coords) (k0_t3 : Fin k0_t3_loop.trips) (v134 : IVec S16 32) (v146 : IVec S16 32) (k0_hw19 : k0_chk19 i k0_t3 v134 v146), ∀ (k0_h1 : k0_cond1 i k0_t3 = 1#1), ∀ a x, ((![v134, v146] : Fin 2 → IVec S16 32) a x).toNat < S512x128.size a := fun i k0_t3 v134 v146 k0_hw19 k0_h1 => k0_hw19 k0_h1
def k0_off24 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_70 : BitVec 32 := 2#32
  let v152 : BitVec 32 := Scalar.addi v43 c2_i32_70
  let v153 : Index := Scalar.indexCast v152
  let c48_71 : Index := 48#32
  ![v153.toNat, 48]

def k0_chk20 (i : grid0.Coords) (k0_t3 : Fin k0_t3_loop.trips) (v134 : IVec S16 32) (v151 : IVec S16 32) : Prop :=
  (∀ (k0_h1 : k0_cond1 i k0_t3 = 1#1), ∀ a x, ((![v134, v151] : Fin 2 → IVec S16 32) a x).toNat < S512x128.size a)
theorem k0_idx20_inb : ∀ (i : grid0.Coords) (k0_t3 : Fin k0_t3_loop.trips) (v134 : IVec S16 32) (v151 : IVec S16 32) (k0_hw20 : k0_chk20 i k0_t3 v134 v151), ∀ (k0_h1 : k0_cond1 i k0_t3 = 1#1), ∀ a x, ((![v134, v151] : Fin 2 → IVec S16 32) a x).toNat < S512x128.size a := fun i k0_t3 v134 v151 k0_hw20 k0_h1 => k0_hw20 k0_h1
def k0_off25 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_73 : BitVec 32 := 2#32
  let v157 : BitVec 32 := Scalar.addi v43 c2_i32_73
  let v158 : Index := Scalar.indexCast v157
  let c64_74 : Index := 64#32
  ![v158.toNat, 64]

def k0_chk21 (i : grid0.Coords) (k0_t3 : Fin k0_t3_loop.trips) (v134 : IVec S16 32) (v156 : IVec S16 32) : Prop :=
  (∀ (k0_h1 : k0_cond1 i k0_t3 = 1#1), ∀ a x, ((![v134, v156] : Fin 2 → IVec S16 32) a x).toNat < S512x128.size a)
theorem k0_idx21_inb : ∀ (i : grid0.Coords) (k0_t3 : Fin k0_t3_loop.trips) (v134 : IVec S16 32) (v156 : IVec S16 32) (k0_hw21 : k0_chk21 i k0_t3 v134 v156), ∀ (k0_h1 : k0_cond1 i k0_t3 = 1#1), ∀ a x, ((![v134, v156] : Fin 2 → IVec S16 32) a x).toNat < S512x128.size a := fun i k0_t3 v134 v156 k0_hw21 k0_h1 => k0_hw21 k0_h1
def k0_off26 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_76 : BitVec 32 := 2#32
  let v162 : BitVec 32 := Scalar.addi v43 c2_i32_76
  let v163 : Index := Scalar.indexCast v162
  let c80_77 : Index := 80#32
  ![v163.toNat, 80]

def k0_chk22 (i : grid0.Coords) (k0_t3 : Fin k0_t3_loop.trips) (v134 : IVec S16 32) (v161 : IVec S16 32) : Prop :=
  (∀ (k0_h1 : k0_cond1 i k0_t3 = 1#1), ∀ a x, ((![v134, v161] : Fin 2 → IVec S16 32) a x).toNat < S512x128.size a)
theorem k0_idx22_inb : ∀ (i : grid0.Coords) (k0_t3 : Fin k0_t3_loop.trips) (v134 : IVec S16 32) (v161 : IVec S16 32) (k0_hw22 : k0_chk22 i k0_t3 v134 v161), ∀ (k0_h1 : k0_cond1 i k0_t3 = 1#1), ∀ a x, ((![v134, v161] : Fin 2 → IVec S16 32) a x).toNat < S512x128.size a := fun i k0_t3 v134 v161 k0_hw22 k0_h1 => k0_hw22 k0_h1
def k0_off27 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_79 : BitVec 32 := 2#32
  let v167 : BitVec 32 := Scalar.addi v43 c2_i32_79
  let v168 : Index := Scalar.indexCast v167
  let c96_80 : Index := 96#32
  ![v168.toNat, 96]

def k0_chk23 (i : grid0.Coords) (k0_t3 : Fin k0_t3_loop.trips) (v134 : IVec S16 32) (v166 : IVec S16 32) : Prop :=
  (∀ (k0_h1 : k0_cond1 i k0_t3 = 1#1), ∀ a x, ((![v134, v166] : Fin 2 → IVec S16 32) a x).toNat < S512x128.size a)
theorem k0_idx23_inb : ∀ (i : grid0.Coords) (k0_t3 : Fin k0_t3_loop.trips) (v134 : IVec S16 32) (v166 : IVec S16 32) (k0_hw23 : k0_chk23 i k0_t3 v134 v166), ∀ (k0_h1 : k0_cond1 i k0_t3 = 1#1), ∀ a x, ((![v134, v166] : Fin 2 → IVec S16 32) a x).toNat < S512x128.size a := fun i k0_t3 v134 v166 k0_hw23 k0_h1 => k0_hw23 k0_h1
def k0_off28 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c2_i32_82 : BitVec 32 := 2#32
  let v172 : BitVec 32 := Scalar.addi v43 c2_i32_82
  let v173 : Index := Scalar.indexCast v172
  let c112_83 : Index := 112#32
  ![v173.toNat, 112]

def k0_chk24 (i : grid0.Coords) (k0_t3 : Fin k0_t3_loop.trips) (v134 : IVec S16 32) (v171 : IVec S16 32) : Prop :=
  (∀ (k0_h1 : k0_cond1 i k0_t3 = 1#1), ∀ a x, ((![v134, v171] : Fin 2 → IVec S16 32) a x).toNat < S512x128.size a)
theorem k0_idx24_inb : ∀ (i : grid0.Coords) (k0_t3 : Fin k0_t3_loop.trips) (v134 : IVec S16 32) (v171 : IVec S16 32) (k0_hw24 : k0_chk24 i k0_t3 v134 v171), ∀ (k0_h1 : k0_cond1 i k0_t3 = 1#1), ∀ a x, ((![v134, v171] : Fin 2 → IVec S16 32) a x).toNat < S512x128.size a := fun i k0_t3 v134 v171 k0_hw24 k0_h1 => k0_hw24 k0_h1
def k0_off29 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32 : BitVec 32 := 3#32
  let v180 : BitVec 32 := Scalar.addi v43 c3_i32
  let v181 : Index := Scalar.indexCast v180
  let c0_85 : Index := 0#32
  ![v181.toNat, 0]

def k0_chk25 (i : grid0.Coords) (k0_t3 : Fin k0_t3_loop.trips) (v177 : IVec S16 32) (v179 : IVec S16 32) : Prop :=
  (∀ (k0_h1 : k0_cond1 i k0_t3 = 1#1), ∀ a x, ((![v177, v179] : Fin 2 → IVec S16 32) a x).toNat < S512x128.size a)
theorem k0_idx25_inb : ∀ (i : grid0.Coords) (k0_t3 : Fin k0_t3_loop.trips) (v177 : IVec S16 32) (v179 : IVec S16 32) (k0_hw25 : k0_chk25 i k0_t3 v177 v179), ∀ (k0_h1 : k0_cond1 i k0_t3 = 1#1), ∀ a x, ((![v177, v179] : Fin 2 → IVec S16 32) a x).toNat < S512x128.size a := fun i k0_t3 v177 v179 k0_hw25 k0_h1 => k0_hw25 k0_h1
def k0_off30 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_87 : BitVec 32 := 3#32
  let v185 : BitVec 32 := Scalar.addi v43 c3_i32_87
  let v186 : Index := Scalar.indexCast v185
  let c16_88 : Index := 16#32
  ![v186.toNat, 16]

def k0_chk26 (i : grid0.Coords) (k0_t3 : Fin k0_t3_loop.trips) (v177 : IVec S16 32) (v184 : IVec S16 32) : Prop :=
  (∀ (k0_h1 : k0_cond1 i k0_t3 = 1#1), ∀ a x, ((![v177, v184] : Fin 2 → IVec S16 32) a x).toNat < S512x128.size a)
theorem k0_idx26_inb : ∀ (i : grid0.Coords) (k0_t3 : Fin k0_t3_loop.trips) (v177 : IVec S16 32) (v184 : IVec S16 32) (k0_hw26 : k0_chk26 i k0_t3 v177 v184), ∀ (k0_h1 : k0_cond1 i k0_t3 = 1#1), ∀ a x, ((![v177, v184] : Fin 2 → IVec S16 32) a x).toNat < S512x128.size a := fun i k0_t3 v177 v184 k0_hw26 k0_h1 => k0_hw26 k0_h1
def k0_off31 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_90 : BitVec 32 := 3#32
  let v190 : BitVec 32 := Scalar.addi v43 c3_i32_90
  let v191 : Index := Scalar.indexCast v190
  let c32_91 : Index := 32#32
  ![v191.toNat, 32]

def k0_chk27 (i : grid0.Coords) (k0_t3 : Fin k0_t3_loop.trips) (v177 : IVec S16 32) (v189 : IVec S16 32) : Prop :=
  (∀ (k0_h1 : k0_cond1 i k0_t3 = 1#1), ∀ a x, ((![v177, v189] : Fin 2 → IVec S16 32) a x).toNat < S512x128.size a)
theorem k0_idx27_inb : ∀ (i : grid0.Coords) (k0_t3 : Fin k0_t3_loop.trips) (v177 : IVec S16 32) (v189 : IVec S16 32) (k0_hw27 : k0_chk27 i k0_t3 v177 v189), ∀ (k0_h1 : k0_cond1 i k0_t3 = 1#1), ∀ a x, ((![v177, v189] : Fin 2 → IVec S16 32) a x).toNat < S512x128.size a := fun i k0_t3 v177 v189 k0_hw27 k0_h1 => k0_hw27 k0_h1
def k0_off32 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_93 : BitVec 32 := 3#32
  let v195 : BitVec 32 := Scalar.addi v43 c3_i32_93
  let v196 : Index := Scalar.indexCast v195
  let c48_94 : Index := 48#32
  ![v196.toNat, 48]

def k0_chk28 (i : grid0.Coords) (k0_t3 : Fin k0_t3_loop.trips) (v177 : IVec S16 32) (v194 : IVec S16 32) : Prop :=
  (∀ (k0_h1 : k0_cond1 i k0_t3 = 1#1), ∀ a x, ((![v177, v194] : Fin 2 → IVec S16 32) a x).toNat < S512x128.size a)
theorem k0_idx28_inb : ∀ (i : grid0.Coords) (k0_t3 : Fin k0_t3_loop.trips) (v177 : IVec S16 32) (v194 : IVec S16 32) (k0_hw28 : k0_chk28 i k0_t3 v177 v194), ∀ (k0_h1 : k0_cond1 i k0_t3 = 1#1), ∀ a x, ((![v177, v194] : Fin 2 → IVec S16 32) a x).toNat < S512x128.size a := fun i k0_t3 v177 v194 k0_hw28 k0_h1 => k0_hw28 k0_h1
def k0_off33 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_96 : BitVec 32 := 3#32
  let v200 : BitVec 32 := Scalar.addi v43 c3_i32_96
  let v201 : Index := Scalar.indexCast v200
  let c64_97 : Index := 64#32
  ![v201.toNat, 64]

def k0_chk29 (i : grid0.Coords) (k0_t3 : Fin k0_t3_loop.trips) (v177 : IVec S16 32) (v199 : IVec S16 32) : Prop :=
  (∀ (k0_h1 : k0_cond1 i k0_t3 = 1#1), ∀ a x, ((![v177, v199] : Fin 2 → IVec S16 32) a x).toNat < S512x128.size a)
theorem k0_idx29_inb : ∀ (i : grid0.Coords) (k0_t3 : Fin k0_t3_loop.trips) (v177 : IVec S16 32) (v199 : IVec S16 32) (k0_hw29 : k0_chk29 i k0_t3 v177 v199), ∀ (k0_h1 : k0_cond1 i k0_t3 = 1#1), ∀ a x, ((![v177, v199] : Fin 2 → IVec S16 32) a x).toNat < S512x128.size a := fun i k0_t3 v177 v199 k0_hw29 k0_h1 => k0_hw29 k0_h1
def k0_off34 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_99 : BitVec 32 := 3#32
  let v205 : BitVec 32 := Scalar.addi v43 c3_i32_99
  let v206 : Index := Scalar.indexCast v205
  let c80_100 : Index := 80#32
  ![v206.toNat, 80]

def k0_chk30 (i : grid0.Coords) (k0_t3 : Fin k0_t3_loop.trips) (v177 : IVec S16 32) (v204 : IVec S16 32) : Prop :=
  (∀ (k0_h1 : k0_cond1 i k0_t3 = 1#1), ∀ a x, ((![v177, v204] : Fin 2 → IVec S16 32) a x).toNat < S512x128.size a)
theorem k0_idx30_inb : ∀ (i : grid0.Coords) (k0_t3 : Fin k0_t3_loop.trips) (v177 : IVec S16 32) (v204 : IVec S16 32) (k0_hw30 : k0_chk30 i k0_t3 v177 v204), ∀ (k0_h1 : k0_cond1 i k0_t3 = 1#1), ∀ a x, ((![v177, v204] : Fin 2 → IVec S16 32) a x).toNat < S512x128.size a := fun i k0_t3 v177 v204 k0_hw30 k0_h1 => k0_hw30 k0_h1
def k0_off35 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_102 : BitVec 32 := 3#32
  let v210 : BitVec 32 := Scalar.addi v43 c3_i32_102
  let v211 : Index := Scalar.indexCast v210
  let c96_103 : Index := 96#32
  ![v211.toNat, 96]

def k0_chk31 (i : grid0.Coords) (k0_t3 : Fin k0_t3_loop.trips) (v177 : IVec S16 32) (v209 : IVec S16 32) : Prop :=
  (∀ (k0_h1 : k0_cond1 i k0_t3 = 1#1), ∀ a x, ((![v177, v209] : Fin 2 → IVec S16 32) a x).toNat < S512x128.size a)
theorem k0_idx31_inb : ∀ (i : grid0.Coords) (k0_t3 : Fin k0_t3_loop.trips) (v177 : IVec S16 32) (v209 : IVec S16 32) (k0_hw31 : k0_chk31 i k0_t3 v177 v209), ∀ (k0_h1 : k0_cond1 i k0_t3 = 1#1), ∀ a x, ((![v177, v209] : Fin 2 → IVec S16 32) a x).toNat < S512x128.size a := fun i k0_t3 v177 v209 k0_hw31 k0_h1 => k0_hw31 k0_h1
def k0_off36 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c3_i32_105 : BitVec 32 := 3#32
  let v215 : BitVec 32 := Scalar.addi v43 c3_i32_105
  let v216 : Index := Scalar.indexCast v215
  let c112_106 : Index := 112#32
  ![v216.toNat, 112]

def k0_chk32 (i : grid0.Coords) (k0_t3 : Fin k0_t3_loop.trips) (v177 : IVec S16 32) (v214 : IVec S16 32) : Prop :=
  (∀ (k0_h1 : k0_cond1 i k0_t3 = 1#1), ∀ a x, ((![v177, v214] : Fin 2 → IVec S16 32) a x).toNat < S512x128.size a)
theorem k0_idx32_inb : ∀ (i : grid0.Coords) (k0_t3 : Fin k0_t3_loop.trips) (v177 : IVec S16 32) (v214 : IVec S16 32) (k0_hw32 : k0_chk32 i k0_t3 v177 v214), ∀ (k0_h1 : k0_cond1 i k0_t3 = 1#1), ∀ a x, ((![v177, v214] : Fin 2 → IVec S16 32) a x).toNat < S512x128.size a := fun i k0_t3 v177 v214 k0_hw32 k0_h1 => k0_hw32 k0_h1
def k0_off37 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32 : BitVec 32 := 4#32
  let v223 : BitVec 32 := Scalar.addi v43 c4_i32
  let v224 : Index := Scalar.indexCast v223
  let c0_108 : Index := 0#32
  ![v224.toNat, 0]

def k0_chk33 (i : grid0.Coords) (k0_t3 : Fin k0_t3_loop.trips) (v220 : IVec S16 32) (v222 : IVec S16 32) : Prop :=
  (∀ (k0_h1 : k0_cond1 i k0_t3 = 1#1), ∀ a x, ((![v220, v222] : Fin 2 → IVec S16 32) a x).toNat < S512x128.size a)
theorem k0_idx33_inb : ∀ (i : grid0.Coords) (k0_t3 : Fin k0_t3_loop.trips) (v220 : IVec S16 32) (v222 : IVec S16 32) (k0_hw33 : k0_chk33 i k0_t3 v220 v222), ∀ (k0_h1 : k0_cond1 i k0_t3 = 1#1), ∀ a x, ((![v220, v222] : Fin 2 → IVec S16 32) a x).toNat < S512x128.size a := fun i k0_t3 v220 v222 k0_hw33 k0_h1 => k0_hw33 k0_h1
def k0_off38 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_110 : BitVec 32 := 4#32
  let v228 : BitVec 32 := Scalar.addi v43 c4_i32_110
  let v229 : Index := Scalar.indexCast v228
  let c16_111 : Index := 16#32
  ![v229.toNat, 16]

def k0_chk34 (i : grid0.Coords) (k0_t3 : Fin k0_t3_loop.trips) (v220 : IVec S16 32) (v227 : IVec S16 32) : Prop :=
  (∀ (k0_h1 : k0_cond1 i k0_t3 = 1#1), ∀ a x, ((![v220, v227] : Fin 2 → IVec S16 32) a x).toNat < S512x128.size a)
theorem k0_idx34_inb : ∀ (i : grid0.Coords) (k0_t3 : Fin k0_t3_loop.trips) (v220 : IVec S16 32) (v227 : IVec S16 32) (k0_hw34 : k0_chk34 i k0_t3 v220 v227), ∀ (k0_h1 : k0_cond1 i k0_t3 = 1#1), ∀ a x, ((![v220, v227] : Fin 2 → IVec S16 32) a x).toNat < S512x128.size a := fun i k0_t3 v220 v227 k0_hw34 k0_h1 => k0_hw34 k0_h1
def k0_off39 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_113 : BitVec 32 := 4#32
  let v233 : BitVec 32 := Scalar.addi v43 c4_i32_113
  let v234 : Index := Scalar.indexCast v233
  let c32_114 : Index := 32#32
  ![v234.toNat, 32]

def k0_chk35 (i : grid0.Coords) (k0_t3 : Fin k0_t3_loop.trips) (v220 : IVec S16 32) (v232 : IVec S16 32) : Prop :=
  (∀ (k0_h1 : k0_cond1 i k0_t3 = 1#1), ∀ a x, ((![v220, v232] : Fin 2 → IVec S16 32) a x).toNat < S512x128.size a)
theorem k0_idx35_inb : ∀ (i : grid0.Coords) (k0_t3 : Fin k0_t3_loop.trips) (v220 : IVec S16 32) (v232 : IVec S16 32) (k0_hw35 : k0_chk35 i k0_t3 v220 v232), ∀ (k0_h1 : k0_cond1 i k0_t3 = 1#1), ∀ a x, ((![v220, v232] : Fin 2 → IVec S16 32) a x).toNat < S512x128.size a := fun i k0_t3 v220 v232 k0_hw35 k0_h1 => k0_hw35 k0_h1
def k0_off40 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_116 : BitVec 32 := 4#32
  let v238 : BitVec 32 := Scalar.addi v43 c4_i32_116
  let v239 : Index := Scalar.indexCast v238
  let c48_117 : Index := 48#32
  ![v239.toNat, 48]

def k0_chk36 (i : grid0.Coords) (k0_t3 : Fin k0_t3_loop.trips) (v220 : IVec S16 32) (v237 : IVec S16 32) : Prop :=
  (∀ (k0_h1 : k0_cond1 i k0_t3 = 1#1), ∀ a x, ((![v220, v237] : Fin 2 → IVec S16 32) a x).toNat < S512x128.size a)
theorem k0_idx36_inb : ∀ (i : grid0.Coords) (k0_t3 : Fin k0_t3_loop.trips) (v220 : IVec S16 32) (v237 : IVec S16 32) (k0_hw36 : k0_chk36 i k0_t3 v220 v237), ∀ (k0_h1 : k0_cond1 i k0_t3 = 1#1), ∀ a x, ((![v220, v237] : Fin 2 → IVec S16 32) a x).toNat < S512x128.size a := fun i k0_t3 v220 v237 k0_hw36 k0_h1 => k0_hw36 k0_h1
def k0_off41 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_119 : BitVec 32 := 4#32
  let v243 : BitVec 32 := Scalar.addi v43 c4_i32_119
  let v244 : Index := Scalar.indexCast v243
  let c64_120 : Index := 64#32
  ![v244.toNat, 64]

def k0_chk37 (i : grid0.Coords) (k0_t3 : Fin k0_t3_loop.trips) (v220 : IVec S16 32) (v242 : IVec S16 32) : Prop :=
  (∀ (k0_h1 : k0_cond1 i k0_t3 = 1#1), ∀ a x, ((![v220, v242] : Fin 2 → IVec S16 32) a x).toNat < S512x128.size a)
theorem k0_idx37_inb : ∀ (i : grid0.Coords) (k0_t3 : Fin k0_t3_loop.trips) (v220 : IVec S16 32) (v242 : IVec S16 32) (k0_hw37 : k0_chk37 i k0_t3 v220 v242), ∀ (k0_h1 : k0_cond1 i k0_t3 = 1#1), ∀ a x, ((![v220, v242] : Fin 2 → IVec S16 32) a x).toNat < S512x128.size a := fun i k0_t3 v220 v242 k0_hw37 k0_h1 => k0_hw37 k0_h1
def k0_off42 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_122 : BitVec 32 := 4#32
  let v248 : BitVec 32 := Scalar.addi v43 c4_i32_122
  let v249 : Index := Scalar.indexCast v248
  let c80_123 : Index := 80#32
  ![v249.toNat, 80]

def k0_chk38 (i : grid0.Coords) (k0_t3 : Fin k0_t3_loop.trips) (v220 : IVec S16 32) (v247 : IVec S16 32) : Prop :=
  (∀ (k0_h1 : k0_cond1 i k0_t3 = 1#1), ∀ a x, ((![v220, v247] : Fin 2 → IVec S16 32) a x).toNat < S512x128.size a)
theorem k0_idx38_inb : ∀ (i : grid0.Coords) (k0_t3 : Fin k0_t3_loop.trips) (v220 : IVec S16 32) (v247 : IVec S16 32) (k0_hw38 : k0_chk38 i k0_t3 v220 v247), ∀ (k0_h1 : k0_cond1 i k0_t3 = 1#1), ∀ a x, ((![v220, v247] : Fin 2 → IVec S16 32) a x).toNat < S512x128.size a := fun i k0_t3 v220 v247 k0_hw38 k0_h1 => k0_hw38 k0_h1
def k0_off43 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_125 : BitVec 32 := 4#32
  let v253 : BitVec 32 := Scalar.addi v43 c4_i32_125
  let v254 : Index := Scalar.indexCast v253
  let c96_126 : Index := 96#32
  ![v254.toNat, 96]

def k0_chk39 (i : grid0.Coords) (k0_t3 : Fin k0_t3_loop.trips) (v220 : IVec S16 32) (v252 : IVec S16 32) : Prop :=
  (∀ (k0_h1 : k0_cond1 i k0_t3 = 1#1), ∀ a x, ((![v220, v252] : Fin 2 → IVec S16 32) a x).toNat < S512x128.size a)
theorem k0_idx39_inb : ∀ (i : grid0.Coords) (k0_t3 : Fin k0_t3_loop.trips) (v220 : IVec S16 32) (v252 : IVec S16 32) (k0_hw39 : k0_chk39 i k0_t3 v220 v252), ∀ (k0_h1 : k0_cond1 i k0_t3 = 1#1), ∀ a x, ((![v220, v252] : Fin 2 → IVec S16 32) a x).toNat < S512x128.size a := fun i k0_t3 v220 v252 k0_hw39 k0_h1 => k0_hw39 k0_h1
def k0_off44 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c4_i32_128 : BitVec 32 := 4#32
  let v258 : BitVec 32 := Scalar.addi v43 c4_i32_128
  let v259 : Index := Scalar.indexCast v258
  let c112_129 : Index := 112#32
  ![v259.toNat, 112]

def k0_chk40 (i : grid0.Coords) (k0_t3 : Fin k0_t3_loop.trips) (v220 : IVec S16 32) (v257 : IVec S16 32) : Prop :=
  (∀ (k0_h1 : k0_cond1 i k0_t3 = 1#1), ∀ a x, ((![v220, v257] : Fin 2 → IVec S16 32) a x).toNat < S512x128.size a)
theorem k0_idx40_inb : ∀ (i : grid0.Coords) (k0_t3 : Fin k0_t3_loop.trips) (v220 : IVec S16 32) (v257 : IVec S16 32) (k0_hw40 : k0_chk40 i k0_t3 v220 v257), ∀ (k0_h1 : k0_cond1 i k0_t3 = 1#1), ∀ a x, ((![v220, v257] : Fin 2 → IVec S16 32) a x).toNat < S512x128.size a := fun i k0_t3 v220 v257 k0_hw40 k0_h1 => k0_hw40 k0_h1
def k0_off45 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_131 : BitVec 32 := 5#32
  let v266 : BitVec 32 := Scalar.addi v43 c5_i32_131
  let v267 : Index := Scalar.indexCast v266
  let c0_132 : Index := 0#32
  ![v267.toNat, 0]

def k0_chk41 (i : grid0.Coords) (k0_t3 : Fin k0_t3_loop.trips) (v263 : IVec S16 32) (v265 : IVec S16 32) : Prop :=
  (∀ (k0_h1 : k0_cond1 i k0_t3 = 1#1), ∀ a x, ((![v263, v265] : Fin 2 → IVec S16 32) a x).toNat < S512x128.size a)
theorem k0_idx41_inb : ∀ (i : grid0.Coords) (k0_t3 : Fin k0_t3_loop.trips) (v263 : IVec S16 32) (v265 : IVec S16 32) (k0_hw41 : k0_chk41 i k0_t3 v263 v265), ∀ (k0_h1 : k0_cond1 i k0_t3 = 1#1), ∀ a x, ((![v263, v265] : Fin 2 → IVec S16 32) a x).toNat < S512x128.size a := fun i k0_t3 v263 v265 k0_hw41 k0_h1 => k0_hw41 k0_h1
def k0_off46 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_134 : BitVec 32 := 5#32
  let v271 : BitVec 32 := Scalar.addi v43 c5_i32_134
  let v272 : Index := Scalar.indexCast v271
  let c16_135 : Index := 16#32
  ![v272.toNat, 16]

def k0_chk42 (i : grid0.Coords) (k0_t3 : Fin k0_t3_loop.trips) (v263 : IVec S16 32) (v270 : IVec S16 32) : Prop :=
  (∀ (k0_h1 : k0_cond1 i k0_t3 = 1#1), ∀ a x, ((![v263, v270] : Fin 2 → IVec S16 32) a x).toNat < S512x128.size a)
theorem k0_idx42_inb : ∀ (i : grid0.Coords) (k0_t3 : Fin k0_t3_loop.trips) (v263 : IVec S16 32) (v270 : IVec S16 32) (k0_hw42 : k0_chk42 i k0_t3 v263 v270), ∀ (k0_h1 : k0_cond1 i k0_t3 = 1#1), ∀ a x, ((![v263, v270] : Fin 2 → IVec S16 32) a x).toNat < S512x128.size a := fun i k0_t3 v263 v270 k0_hw42 k0_h1 => k0_hw42 k0_h1
def k0_off47 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_137 : BitVec 32 := 5#32
  let v276 : BitVec 32 := Scalar.addi v43 c5_i32_137
  let v277 : Index := Scalar.indexCast v276
  let c32_138 : Index := 32#32
  ![v277.toNat, 32]

def k0_chk43 (i : grid0.Coords) (k0_t3 : Fin k0_t3_loop.trips) (v263 : IVec S16 32) (v275 : IVec S16 32) : Prop :=
  (∀ (k0_h1 : k0_cond1 i k0_t3 = 1#1), ∀ a x, ((![v263, v275] : Fin 2 → IVec S16 32) a x).toNat < S512x128.size a)
theorem k0_idx43_inb : ∀ (i : grid0.Coords) (k0_t3 : Fin k0_t3_loop.trips) (v263 : IVec S16 32) (v275 : IVec S16 32) (k0_hw43 : k0_chk43 i k0_t3 v263 v275), ∀ (k0_h1 : k0_cond1 i k0_t3 = 1#1), ∀ a x, ((![v263, v275] : Fin 2 → IVec S16 32) a x).toNat < S512x128.size a := fun i k0_t3 v263 v275 k0_hw43 k0_h1 => k0_hw43 k0_h1
def k0_off48 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_140 : BitVec 32 := 5#32
  let v281 : BitVec 32 := Scalar.addi v43 c5_i32_140
  let v282 : Index := Scalar.indexCast v281
  let c48_141 : Index := 48#32
  ![v282.toNat, 48]

def k0_chk44 (i : grid0.Coords) (k0_t3 : Fin k0_t3_loop.trips) (v263 : IVec S16 32) (v280 : IVec S16 32) : Prop :=
  (∀ (k0_h1 : k0_cond1 i k0_t3 = 1#1), ∀ a x, ((![v263, v280] : Fin 2 → IVec S16 32) a x).toNat < S512x128.size a)
theorem k0_idx44_inb : ∀ (i : grid0.Coords) (k0_t3 : Fin k0_t3_loop.trips) (v263 : IVec S16 32) (v280 : IVec S16 32) (k0_hw44 : k0_chk44 i k0_t3 v263 v280), ∀ (k0_h1 : k0_cond1 i k0_t3 = 1#1), ∀ a x, ((![v263, v280] : Fin 2 → IVec S16 32) a x).toNat < S512x128.size a := fun i k0_t3 v263 v280 k0_hw44 k0_h1 => k0_hw44 k0_h1
def k0_off49 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_143 : BitVec 32 := 5#32
  let v286 : BitVec 32 := Scalar.addi v43 c5_i32_143
  let v287 : Index := Scalar.indexCast v286
  let c64_144 : Index := 64#32
  ![v287.toNat, 64]

def k0_chk45 (i : grid0.Coords) (k0_t3 : Fin k0_t3_loop.trips) (v263 : IVec S16 32) (v285 : IVec S16 32) : Prop :=
  (∀ (k0_h1 : k0_cond1 i k0_t3 = 1#1), ∀ a x, ((![v263, v285] : Fin 2 → IVec S16 32) a x).toNat < S512x128.size a)
theorem k0_idx45_inb : ∀ (i : grid0.Coords) (k0_t3 : Fin k0_t3_loop.trips) (v263 : IVec S16 32) (v285 : IVec S16 32) (k0_hw45 : k0_chk45 i k0_t3 v263 v285), ∀ (k0_h1 : k0_cond1 i k0_t3 = 1#1), ∀ a x, ((![v263, v285] : Fin 2 → IVec S16 32) a x).toNat < S512x128.size a := fun i k0_t3 v263 v285 k0_hw45 k0_h1 => k0_hw45 k0_h1
def k0_off50 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_146 : BitVec 32 := 5#32
  let v291 : BitVec 32 := Scalar.addi v43 c5_i32_146
  let v292 : Index := Scalar.indexCast v291
  let c80_147 : Index := 80#32
  ![v292.toNat, 80]

def k0_chk46 (i : grid0.Coords) (k0_t3 : Fin k0_t3_loop.trips) (v263 : IVec S16 32) (v290 : IVec S16 32) : Prop :=
  (∀ (k0_h1 : k0_cond1 i k0_t3 = 1#1), ∀ a x, ((![v263, v290] : Fin 2 → IVec S16 32) a x).toNat < S512x128.size a)
theorem k0_idx46_inb : ∀ (i : grid0.Coords) (k0_t3 : Fin k0_t3_loop.trips) (v263 : IVec S16 32) (v290 : IVec S16 32) (k0_hw46 : k0_chk46 i k0_t3 v263 v290), ∀ (k0_h1 : k0_cond1 i k0_t3 = 1#1), ∀ a x, ((![v263, v290] : Fin 2 → IVec S16 32) a x).toNat < S512x128.size a := fun i k0_t3 v263 v290 k0_hw46 k0_h1 => k0_hw46 k0_h1
def k0_off51 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_149 : BitVec 32 := 5#32
  let v296 : BitVec 32 := Scalar.addi v43 c5_i32_149
  let v297 : Index := Scalar.indexCast v296
  let c96_150 : Index := 96#32
  ![v297.toNat, 96]

def k0_chk47 (i : grid0.Coords) (k0_t3 : Fin k0_t3_loop.trips) (v263 : IVec S16 32) (v295 : IVec S16 32) : Prop :=
  (∀ (k0_h1 : k0_cond1 i k0_t3 = 1#1), ∀ a x, ((![v263, v295] : Fin 2 → IVec S16 32) a x).toNat < S512x128.size a)
theorem k0_idx47_inb : ∀ (i : grid0.Coords) (k0_t3 : Fin k0_t3_loop.trips) (v263 : IVec S16 32) (v295 : IVec S16 32) (k0_hw47 : k0_chk47 i k0_t3 v263 v295), ∀ (k0_h1 : k0_cond1 i k0_t3 = 1#1), ∀ a x, ((![v263, v295] : Fin 2 → IVec S16 32) a x).toNat < S512x128.size a := fun i k0_t3 v263 v295 k0_hw47 k0_h1 => k0_hw47 k0_h1
def k0_off52 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c5_i32_152 : BitVec 32 := 5#32
  let v301 : BitVec 32 := Scalar.addi v43 c5_i32_152
  let v302 : Index := Scalar.indexCast v301
  let c112_153 : Index := 112#32
  ![v302.toNat, 112]

def k0_chk48 (i : grid0.Coords) (k0_t3 : Fin k0_t3_loop.trips) (v263 : IVec S16 32) (v300 : IVec S16 32) : Prop :=
  (∀ (k0_h1 : k0_cond1 i k0_t3 = 1#1), ∀ a x, ((![v263, v300] : Fin 2 → IVec S16 32) a x).toNat < S512x128.size a)
theorem k0_idx48_inb : ∀ (i : grid0.Coords) (k0_t3 : Fin k0_t3_loop.trips) (v263 : IVec S16 32) (v300 : IVec S16 32) (k0_hw48 : k0_chk48 i k0_t3 v263 v300), ∀ (k0_h1 : k0_cond1 i k0_t3 = 1#1), ∀ a x, ((![v263, v300] : Fin 2 → IVec S16 32) a x).toNat < S512x128.size a := fun i k0_t3 v263 v300 k0_hw48 k0_h1 => k0_hw48 k0_h1
def k0_off53 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32 : BitVec 32 := 6#32
  let v309 : BitVec 32 := Scalar.addi v43 c6_i32
  let v310 : Index := Scalar.indexCast v309
  let c0_155 : Index := 0#32
  ![v310.toNat, 0]

def k0_chk49 (i : grid0.Coords) (k0_t3 : Fin k0_t3_loop.trips) (v306 : IVec S16 32) (v308 : IVec S16 32) : Prop :=
  (∀ (k0_h1 : k0_cond1 i k0_t3 = 1#1), ∀ a x, ((![v306, v308] : Fin 2 → IVec S16 32) a x).toNat < S512x128.size a)
theorem k0_idx49_inb : ∀ (i : grid0.Coords) (k0_t3 : Fin k0_t3_loop.trips) (v306 : IVec S16 32) (v308 : IVec S16 32) (k0_hw49 : k0_chk49 i k0_t3 v306 v308), ∀ (k0_h1 : k0_cond1 i k0_t3 = 1#1), ∀ a x, ((![v306, v308] : Fin 2 → IVec S16 32) a x).toNat < S512x128.size a := fun i k0_t3 v306 v308 k0_hw49 k0_h1 => k0_hw49 k0_h1
def k0_off54 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_157 : BitVec 32 := 6#32
  let v314 : BitVec 32 := Scalar.addi v43 c6_i32_157
  let v315 : Index := Scalar.indexCast v314
  let c16_158 : Index := 16#32
  ![v315.toNat, 16]

def k0_chk50 (i : grid0.Coords) (k0_t3 : Fin k0_t3_loop.trips) (v306 : IVec S16 32) (v313 : IVec S16 32) : Prop :=
  (∀ (k0_h1 : k0_cond1 i k0_t3 = 1#1), ∀ a x, ((![v306, v313] : Fin 2 → IVec S16 32) a x).toNat < S512x128.size a)
theorem k0_idx50_inb : ∀ (i : grid0.Coords) (k0_t3 : Fin k0_t3_loop.trips) (v306 : IVec S16 32) (v313 : IVec S16 32) (k0_hw50 : k0_chk50 i k0_t3 v306 v313), ∀ (k0_h1 : k0_cond1 i k0_t3 = 1#1), ∀ a x, ((![v306, v313] : Fin 2 → IVec S16 32) a x).toNat < S512x128.size a := fun i k0_t3 v306 v313 k0_hw50 k0_h1 => k0_hw50 k0_h1
def k0_off55 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_160 : BitVec 32 := 6#32
  let v319 : BitVec 32 := Scalar.addi v43 c6_i32_160
  let v320 : Index := Scalar.indexCast v319
  let c32_161 : Index := 32#32
  ![v320.toNat, 32]

def k0_chk51 (i : grid0.Coords) (k0_t3 : Fin k0_t3_loop.trips) (v306 : IVec S16 32) (v318 : IVec S16 32) : Prop :=
  (∀ (k0_h1 : k0_cond1 i k0_t3 = 1#1), ∀ a x, ((![v306, v318] : Fin 2 → IVec S16 32) a x).toNat < S512x128.size a)
theorem k0_idx51_inb : ∀ (i : grid0.Coords) (k0_t3 : Fin k0_t3_loop.trips) (v306 : IVec S16 32) (v318 : IVec S16 32) (k0_hw51 : k0_chk51 i k0_t3 v306 v318), ∀ (k0_h1 : k0_cond1 i k0_t3 = 1#1), ∀ a x, ((![v306, v318] : Fin 2 → IVec S16 32) a x).toNat < S512x128.size a := fun i k0_t3 v306 v318 k0_hw51 k0_h1 => k0_hw51 k0_h1
def k0_off56 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_163 : BitVec 32 := 6#32
  let v324 : BitVec 32 := Scalar.addi v43 c6_i32_163
  let v325 : Index := Scalar.indexCast v324
  let c48_164 : Index := 48#32
  ![v325.toNat, 48]

def k0_chk52 (i : grid0.Coords) (k0_t3 : Fin k0_t3_loop.trips) (v306 : IVec S16 32) (v323 : IVec S16 32) : Prop :=
  (∀ (k0_h1 : k0_cond1 i k0_t3 = 1#1), ∀ a x, ((![v306, v323] : Fin 2 → IVec S16 32) a x).toNat < S512x128.size a)
theorem k0_idx52_inb : ∀ (i : grid0.Coords) (k0_t3 : Fin k0_t3_loop.trips) (v306 : IVec S16 32) (v323 : IVec S16 32) (k0_hw52 : k0_chk52 i k0_t3 v306 v323), ∀ (k0_h1 : k0_cond1 i k0_t3 = 1#1), ∀ a x, ((![v306, v323] : Fin 2 → IVec S16 32) a x).toNat < S512x128.size a := fun i k0_t3 v306 v323 k0_hw52 k0_h1 => k0_hw52 k0_h1
def k0_off57 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_166 : BitVec 32 := 6#32
  let v329 : BitVec 32 := Scalar.addi v43 c6_i32_166
  let v330 : Index := Scalar.indexCast v329
  let c64_167 : Index := 64#32
  ![v330.toNat, 64]

def k0_chk53 (i : grid0.Coords) (k0_t3 : Fin k0_t3_loop.trips) (v306 : IVec S16 32) (v328 : IVec S16 32) : Prop :=
  (∀ (k0_h1 : k0_cond1 i k0_t3 = 1#1), ∀ a x, ((![v306, v328] : Fin 2 → IVec S16 32) a x).toNat < S512x128.size a)
theorem k0_idx53_inb : ∀ (i : grid0.Coords) (k0_t3 : Fin k0_t3_loop.trips) (v306 : IVec S16 32) (v328 : IVec S16 32) (k0_hw53 : k0_chk53 i k0_t3 v306 v328), ∀ (k0_h1 : k0_cond1 i k0_t3 = 1#1), ∀ a x, ((![v306, v328] : Fin 2 → IVec S16 32) a x).toNat < S512x128.size a := fun i k0_t3 v306 v328 k0_hw53 k0_h1 => k0_hw53 k0_h1
def k0_off58 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_169 : BitVec 32 := 6#32
  let v334 : BitVec 32 := Scalar.addi v43 c6_i32_169
  let v335 : Index := Scalar.indexCast v334
  let c80_170 : Index := 80#32
  ![v335.toNat, 80]

def k0_chk54 (i : grid0.Coords) (k0_t3 : Fin k0_t3_loop.trips) (v306 : IVec S16 32) (v333 : IVec S16 32) : Prop :=
  (∀ (k0_h1 : k0_cond1 i k0_t3 = 1#1), ∀ a x, ((![v306, v333] : Fin 2 → IVec S16 32) a x).toNat < S512x128.size a)
theorem k0_idx54_inb : ∀ (i : grid0.Coords) (k0_t3 : Fin k0_t3_loop.trips) (v306 : IVec S16 32) (v333 : IVec S16 32) (k0_hw54 : k0_chk54 i k0_t3 v306 v333), ∀ (k0_h1 : k0_cond1 i k0_t3 = 1#1), ∀ a x, ((![v306, v333] : Fin 2 → IVec S16 32) a x).toNat < S512x128.size a := fun i k0_t3 v306 v333 k0_hw54 k0_h1 => k0_hw54 k0_h1
def k0_off59 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_172 : BitVec 32 := 6#32
  let v339 : BitVec 32 := Scalar.addi v43 c6_i32_172
  let v340 : Index := Scalar.indexCast v339
  let c96_173 : Index := 96#32
  ![v340.toNat, 96]

def k0_chk55 (i : grid0.Coords) (k0_t3 : Fin k0_t3_loop.trips) (v306 : IVec S16 32) (v338 : IVec S16 32) : Prop :=
  (∀ (k0_h1 : k0_cond1 i k0_t3 = 1#1), ∀ a x, ((![v306, v338] : Fin 2 → IVec S16 32) a x).toNat < S512x128.size a)
theorem k0_idx55_inb : ∀ (i : grid0.Coords) (k0_t3 : Fin k0_t3_loop.trips) (v306 : IVec S16 32) (v338 : IVec S16 32) (k0_hw55 : k0_chk55 i k0_t3 v306 v338), ∀ (k0_h1 : k0_cond1 i k0_t3 = 1#1), ∀ a x, ((![v306, v338] : Fin 2 → IVec S16 32) a x).toNat < S512x128.size a := fun i k0_t3 v306 v338 k0_hw55 k0_h1 => k0_hw55 k0_h1
def k0_off60 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c6_i32_175 : BitVec 32 := 6#32
  let v344 : BitVec 32 := Scalar.addi v43 c6_i32_175
  let v345 : Index := Scalar.indexCast v344
  let c112_176 : Index := 112#32
  ![v345.toNat, 112]

def k0_chk56 (i : grid0.Coords) (k0_t3 : Fin k0_t3_loop.trips) (v306 : IVec S16 32) (v343 : IVec S16 32) : Prop :=
  (∀ (k0_h1 : k0_cond1 i k0_t3 = 1#1), ∀ a x, ((![v306, v343] : Fin 2 → IVec S16 32) a x).toNat < S512x128.size a)
theorem k0_idx56_inb : ∀ (i : grid0.Coords) (k0_t3 : Fin k0_t3_loop.trips) (v306 : IVec S16 32) (v343 : IVec S16 32) (k0_hw56 : k0_chk56 i k0_t3 v306 v343), ∀ (k0_h1 : k0_cond1 i k0_t3 = 1#1), ∀ a x, ((![v306, v343] : Fin 2 → IVec S16 32) a x).toNat < S512x128.size a := fun i k0_t3 v306 v343 k0_hw56 k0_h1 => k0_hw56 k0_h1
def k0_off61 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32 : BitVec 32 := 7#32
  let v352 : BitVec 32 := Scalar.addi v43 c7_i32
  let v353 : Index := Scalar.indexCast v352
  let c0_178 : Index := 0#32
  ![v353.toNat, 0]

def k0_chk57 (i : grid0.Coords) (k0_t3 : Fin k0_t3_loop.trips) (v349 : IVec S16 32) (v351 : IVec S16 32) : Prop :=
  (∀ (k0_h1 : k0_cond1 i k0_t3 = 1#1), ∀ a x, ((![v349, v351] : Fin 2 → IVec S16 32) a x).toNat < S512x128.size a)
theorem k0_idx57_inb : ∀ (i : grid0.Coords) (k0_t3 : Fin k0_t3_loop.trips) (v349 : IVec S16 32) (v351 : IVec S16 32) (k0_hw57 : k0_chk57 i k0_t3 v349 v351), ∀ (k0_h1 : k0_cond1 i k0_t3 = 1#1), ∀ a x, ((![v349, v351] : Fin 2 → IVec S16 32) a x).toNat < S512x128.size a := fun i k0_t3 v349 v351 k0_hw57 k0_h1 => k0_hw57 k0_h1
def k0_off62 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_180 : BitVec 32 := 7#32
  let v357 : BitVec 32 := Scalar.addi v43 c7_i32_180
  let v358 : Index := Scalar.indexCast v357
  let c16_181 : Index := 16#32
  ![v358.toNat, 16]

def k0_chk58 (i : grid0.Coords) (k0_t3 : Fin k0_t3_loop.trips) (v349 : IVec S16 32) (v356 : IVec S16 32) : Prop :=
  (∀ (k0_h1 : k0_cond1 i k0_t3 = 1#1), ∀ a x, ((![v349, v356] : Fin 2 → IVec S16 32) a x).toNat < S512x128.size a)
theorem k0_idx58_inb : ∀ (i : grid0.Coords) (k0_t3 : Fin k0_t3_loop.trips) (v349 : IVec S16 32) (v356 : IVec S16 32) (k0_hw58 : k0_chk58 i k0_t3 v349 v356), ∀ (k0_h1 : k0_cond1 i k0_t3 = 1#1), ∀ a x, ((![v349, v356] : Fin 2 → IVec S16 32) a x).toNat < S512x128.size a := fun i k0_t3 v349 v356 k0_hw58 k0_h1 => k0_hw58 k0_h1
def k0_off63 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_183 : BitVec 32 := 7#32
  let v362 : BitVec 32 := Scalar.addi v43 c7_i32_183
  let v363 : Index := Scalar.indexCast v362
  let c32_184 : Index := 32#32
  ![v363.toNat, 32]

def k0_chk59 (i : grid0.Coords) (k0_t3 : Fin k0_t3_loop.trips) (v349 : IVec S16 32) (v361 : IVec S16 32) : Prop :=
  (∀ (k0_h1 : k0_cond1 i k0_t3 = 1#1), ∀ a x, ((![v349, v361] : Fin 2 → IVec S16 32) a x).toNat < S512x128.size a)
theorem k0_idx59_inb : ∀ (i : grid0.Coords) (k0_t3 : Fin k0_t3_loop.trips) (v349 : IVec S16 32) (v361 : IVec S16 32) (k0_hw59 : k0_chk59 i k0_t3 v349 v361), ∀ (k0_h1 : k0_cond1 i k0_t3 = 1#1), ∀ a x, ((![v349, v361] : Fin 2 → IVec S16 32) a x).toNat < S512x128.size a := fun i k0_t3 v349 v361 k0_hw59 k0_h1 => k0_hw59 k0_h1
def k0_off64 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_186 : BitVec 32 := 7#32
  let v367 : BitVec 32 := Scalar.addi v43 c7_i32_186
  let v368 : Index := Scalar.indexCast v367
  let c48_187 : Index := 48#32
  ![v368.toNat, 48]

def k0_chk60 (i : grid0.Coords) (k0_t3 : Fin k0_t3_loop.trips) (v349 : IVec S16 32) (v366 : IVec S16 32) : Prop :=
  (∀ (k0_h1 : k0_cond1 i k0_t3 = 1#1), ∀ a x, ((![v349, v366] : Fin 2 → IVec S16 32) a x).toNat < S512x128.size a)
theorem k0_idx60_inb : ∀ (i : grid0.Coords) (k0_t3 : Fin k0_t3_loop.trips) (v349 : IVec S16 32) (v366 : IVec S16 32) (k0_hw60 : k0_chk60 i k0_t3 v349 v366), ∀ (k0_h1 : k0_cond1 i k0_t3 = 1#1), ∀ a x, ((![v349, v366] : Fin 2 → IVec S16 32) a x).toNat < S512x128.size a := fun i k0_t3 v349 v366 k0_hw60 k0_h1 => k0_hw60 k0_h1
def k0_off65 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_189 : BitVec 32 := 7#32
  let v372 : BitVec 32 := Scalar.addi v43 c7_i32_189
  let v373 : Index := Scalar.indexCast v372
  let c64_190 : Index := 64#32
  ![v373.toNat, 64]

def k0_chk61 (i : grid0.Coords) (k0_t3 : Fin k0_t3_loop.trips) (v349 : IVec S16 32) (v371 : IVec S16 32) : Prop :=
  (∀ (k0_h1 : k0_cond1 i k0_t3 = 1#1), ∀ a x, ((![v349, v371] : Fin 2 → IVec S16 32) a x).toNat < S512x128.size a)
theorem k0_idx61_inb : ∀ (i : grid0.Coords) (k0_t3 : Fin k0_t3_loop.trips) (v349 : IVec S16 32) (v371 : IVec S16 32) (k0_hw61 : k0_chk61 i k0_t3 v349 v371), ∀ (k0_h1 : k0_cond1 i k0_t3 = 1#1), ∀ a x, ((![v349, v371] : Fin 2 → IVec S16 32) a x).toNat < S512x128.size a := fun i k0_t3 v349 v371 k0_hw61 k0_h1 => k0_hw61 k0_h1
def k0_off66 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_192 : BitVec 32 := 7#32
  let v377 : BitVec 32 := Scalar.addi v43 c7_i32_192
  let v378 : Index := Scalar.indexCast v377
  let c80_193 : Index := 80#32
  ![v378.toNat, 80]

def k0_chk62 (i : grid0.Coords) (k0_t3 : Fin k0_t3_loop.trips) (v349 : IVec S16 32) (v376 : IVec S16 32) : Prop :=
  (∀ (k0_h1 : k0_cond1 i k0_t3 = 1#1), ∀ a x, ((![v349, v376] : Fin 2 → IVec S16 32) a x).toNat < S512x128.size a)
theorem k0_idx62_inb : ∀ (i : grid0.Coords) (k0_t3 : Fin k0_t3_loop.trips) (v349 : IVec S16 32) (v376 : IVec S16 32) (k0_hw62 : k0_chk62 i k0_t3 v349 v376), ∀ (k0_h1 : k0_cond1 i k0_t3 = 1#1), ∀ a x, ((![v349, v376] : Fin 2 → IVec S16 32) a x).toNat < S512x128.size a := fun i k0_t3 v349 v376 k0_hw62 k0_h1 => k0_hw62 k0_h1
def k0_off67 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_195 : BitVec 32 := 7#32
  let v382 : BitVec 32 := Scalar.addi v43 c7_i32_195
  let v383 : Index := Scalar.indexCast v382
  let c96_196 : Index := 96#32
  ![v383.toNat, 96]

def k0_chk63 (i : grid0.Coords) (k0_t3 : Fin k0_t3_loop.trips) (v349 : IVec S16 32) (v381 : IVec S16 32) : Prop :=
  (∀ (k0_h1 : k0_cond1 i k0_t3 = 1#1), ∀ a x, ((![v349, v381] : Fin 2 → IVec S16 32) a x).toNat < S512x128.size a)
theorem k0_idx63_inb : ∀ (i : grid0.Coords) (k0_t3 : Fin k0_t3_loop.trips) (v349 : IVec S16 32) (v381 : IVec S16 32) (k0_hw63 : k0_chk63 i k0_t3 v349 v381), ∀ (k0_h1 : k0_cond1 i k0_t3 = 1#1), ∀ a x, ((![v349, v381] : Fin 2 → IVec S16 32) a x).toNat < S512x128.size a := fun i k0_t3 v349 v381 k0_hw63 k0_h1 => k0_hw63 k0_h1
def k0_off68 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c7_i32_198 : BitVec 32 := 7#32
  let v387 : BitVec 32 := Scalar.addi v43 c7_i32_198
  let v388 : Index := Scalar.indexCast v387
  let c112_199 : Index := 112#32
  ![v388.toNat, 112]

def k0_chk64 (i : grid0.Coords) (k0_t3 : Fin k0_t3_loop.trips) (v349 : IVec S16 32) (v386 : IVec S16 32) : Prop :=
  (∀ (k0_h1 : k0_cond1 i k0_t3 = 1#1), ∀ a x, ((![v349, v386] : Fin 2 → IVec S16 32) a x).toNat < S512x128.size a)
theorem k0_idx64_inb : ∀ (i : grid0.Coords) (k0_t3 : Fin k0_t3_loop.trips) (v349 : IVec S16 32) (v386 : IVec S16 32) (k0_hw64 : k0_chk64 i k0_t3 v349 v386), ∀ (k0_h1 : k0_cond1 i k0_t3 = 1#1), ∀ a x, ((![v349, v386] : Fin 2 → IVec S16 32) a x).toNat < S512x128.size a := fun i k0_t3 v349 v386 k0_hw64 k0_h1 => k0_hw64 k0_h1
def k0_off69 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32 : BitVec 32 := 8#32
  let v395 : BitVec 32 := Scalar.addi v43 c8_i32
  let v396 : Index := Scalar.indexCast v395
  let c0_201 : Index := 0#32
  ![v396.toNat, 0]

def k0_chk65 (i : grid0.Coords) (k0_t3 : Fin k0_t3_loop.trips) (v392 : IVec S16 32) (v394 : IVec S16 32) : Prop :=
  (∀ (k0_h1 : k0_cond1 i k0_t3 = 1#1), ∀ a x, ((![v392, v394] : Fin 2 → IVec S16 32) a x).toNat < S512x128.size a)
theorem k0_idx65_inb : ∀ (i : grid0.Coords) (k0_t3 : Fin k0_t3_loop.trips) (v392 : IVec S16 32) (v394 : IVec S16 32) (k0_hw65 : k0_chk65 i k0_t3 v392 v394), ∀ (k0_h1 : k0_cond1 i k0_t3 = 1#1), ∀ a x, ((![v392, v394] : Fin 2 → IVec S16 32) a x).toNat < S512x128.size a := fun i k0_t3 v392 v394 k0_hw65 k0_h1 => k0_hw65 k0_h1
def k0_off70 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_203 : BitVec 32 := 8#32
  let v400 : BitVec 32 := Scalar.addi v43 c8_i32_203
  let v401 : Index := Scalar.indexCast v400
  let c16_204 : Index := 16#32
  ![v401.toNat, 16]

def k0_chk66 (i : grid0.Coords) (k0_t3 : Fin k0_t3_loop.trips) (v392 : IVec S16 32) (v399 : IVec S16 32) : Prop :=
  (∀ (k0_h1 : k0_cond1 i k0_t3 = 1#1), ∀ a x, ((![v392, v399] : Fin 2 → IVec S16 32) a x).toNat < S512x128.size a)
theorem k0_idx66_inb : ∀ (i : grid0.Coords) (k0_t3 : Fin k0_t3_loop.trips) (v392 : IVec S16 32) (v399 : IVec S16 32) (k0_hw66 : k0_chk66 i k0_t3 v392 v399), ∀ (k0_h1 : k0_cond1 i k0_t3 = 1#1), ∀ a x, ((![v392, v399] : Fin 2 → IVec S16 32) a x).toNat < S512x128.size a := fun i k0_t3 v392 v399 k0_hw66 k0_h1 => k0_hw66 k0_h1
def k0_off71 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_206 : BitVec 32 := 8#32
  let v405 : BitVec 32 := Scalar.addi v43 c8_i32_206
  let v406 : Index := Scalar.indexCast v405
  let c32_207 : Index := 32#32
  ![v406.toNat, 32]

def k0_chk67 (i : grid0.Coords) (k0_t3 : Fin k0_t3_loop.trips) (v392 : IVec S16 32) (v404 : IVec S16 32) : Prop :=
  (∀ (k0_h1 : k0_cond1 i k0_t3 = 1#1), ∀ a x, ((![v392, v404] : Fin 2 → IVec S16 32) a x).toNat < S512x128.size a)
theorem k0_idx67_inb : ∀ (i : grid0.Coords) (k0_t3 : Fin k0_t3_loop.trips) (v392 : IVec S16 32) (v404 : IVec S16 32) (k0_hw67 : k0_chk67 i k0_t3 v392 v404), ∀ (k0_h1 : k0_cond1 i k0_t3 = 1#1), ∀ a x, ((![v392, v404] : Fin 2 → IVec S16 32) a x).toNat < S512x128.size a := fun i k0_t3 v392 v404 k0_hw67 k0_h1 => k0_hw67 k0_h1
def k0_off72 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_209 : BitVec 32 := 8#32
  let v410 : BitVec 32 := Scalar.addi v43 c8_i32_209
  let v411 : Index := Scalar.indexCast v410
  let c48_210 : Index := 48#32
  ![v411.toNat, 48]

def k0_chk68 (i : grid0.Coords) (k0_t3 : Fin k0_t3_loop.trips) (v392 : IVec S16 32) (v409 : IVec S16 32) : Prop :=
  (∀ (k0_h1 : k0_cond1 i k0_t3 = 1#1), ∀ a x, ((![v392, v409] : Fin 2 → IVec S16 32) a x).toNat < S512x128.size a)
theorem k0_idx68_inb : ∀ (i : grid0.Coords) (k0_t3 : Fin k0_t3_loop.trips) (v392 : IVec S16 32) (v409 : IVec S16 32) (k0_hw68 : k0_chk68 i k0_t3 v392 v409), ∀ (k0_h1 : k0_cond1 i k0_t3 = 1#1), ∀ a x, ((![v392, v409] : Fin 2 → IVec S16 32) a x).toNat < S512x128.size a := fun i k0_t3 v392 v409 k0_hw68 k0_h1 => k0_hw68 k0_h1
def k0_off73 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_212 : BitVec 32 := 8#32
  let v415 : BitVec 32 := Scalar.addi v43 c8_i32_212
  let v416 : Index := Scalar.indexCast v415
  let c64_213 : Index := 64#32
  ![v416.toNat, 64]

def k0_chk69 (i : grid0.Coords) (k0_t3 : Fin k0_t3_loop.trips) (v392 : IVec S16 32) (v414 : IVec S16 32) : Prop :=
  (∀ (k0_h1 : k0_cond1 i k0_t3 = 1#1), ∀ a x, ((![v392, v414] : Fin 2 → IVec S16 32) a x).toNat < S512x128.size a)
theorem k0_idx69_inb : ∀ (i : grid0.Coords) (k0_t3 : Fin k0_t3_loop.trips) (v392 : IVec S16 32) (v414 : IVec S16 32) (k0_hw69 : k0_chk69 i k0_t3 v392 v414), ∀ (k0_h1 : k0_cond1 i k0_t3 = 1#1), ∀ a x, ((![v392, v414] : Fin 2 → IVec S16 32) a x).toNat < S512x128.size a := fun i k0_t3 v392 v414 k0_hw69 k0_h1 => k0_hw69 k0_h1
def k0_off74 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_215 : BitVec 32 := 8#32
  let v420 : BitVec 32 := Scalar.addi v43 c8_i32_215
  let v421 : Index := Scalar.indexCast v420
  let c80_216 : Index := 80#32
  ![v421.toNat, 80]

def k0_chk70 (i : grid0.Coords) (k0_t3 : Fin k0_t3_loop.trips) (v392 : IVec S16 32) (v419 : IVec S16 32) : Prop :=
  (∀ (k0_h1 : k0_cond1 i k0_t3 = 1#1), ∀ a x, ((![v392, v419] : Fin 2 → IVec S16 32) a x).toNat < S512x128.size a)
theorem k0_idx70_inb : ∀ (i : grid0.Coords) (k0_t3 : Fin k0_t3_loop.trips) (v392 : IVec S16 32) (v419 : IVec S16 32) (k0_hw70 : k0_chk70 i k0_t3 v392 v419), ∀ (k0_h1 : k0_cond1 i k0_t3 = 1#1), ∀ a x, ((![v392, v419] : Fin 2 → IVec S16 32) a x).toNat < S512x128.size a := fun i k0_t3 v392 v419 k0_hw70 k0_h1 => k0_hw70 k0_h1
def k0_off75 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_218 : BitVec 32 := 8#32
  let v425 : BitVec 32 := Scalar.addi v43 c8_i32_218
  let v426 : Index := Scalar.indexCast v425
  let c96_219 : Index := 96#32
  ![v426.toNat, 96]

def k0_chk71 (i : grid0.Coords) (k0_t3 : Fin k0_t3_loop.trips) (v392 : IVec S16 32) (v424 : IVec S16 32) : Prop :=
  (∀ (k0_h1 : k0_cond1 i k0_t3 = 1#1), ∀ a x, ((![v392, v424] : Fin 2 → IVec S16 32) a x).toNat < S512x128.size a)
theorem k0_idx71_inb : ∀ (i : grid0.Coords) (k0_t3 : Fin k0_t3_loop.trips) (v392 : IVec S16 32) (v424 : IVec S16 32) (k0_hw71 : k0_chk71 i k0_t3 v392 v424), ∀ (k0_h1 : k0_cond1 i k0_t3 = 1#1), ∀ a x, ((![v392, v424] : Fin 2 → IVec S16 32) a x).toNat < S512x128.size a := fun i k0_t3 v392 v424 k0_hw71 k0_h1 => k0_hw71 k0_h1
def k0_off76 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c8_i32_221 : BitVec 32 := 8#32
  let v430 : BitVec 32 := Scalar.addi v43 c8_i32_221
  let v431 : Index := Scalar.indexCast v430
  let c112_222 : Index := 112#32
  ![v431.toNat, 112]

def k0_chk72 (i : grid0.Coords) (k0_t3 : Fin k0_t3_loop.trips) (v392 : IVec S16 32) (v429 : IVec S16 32) : Prop :=
  (∀ (k0_h1 : k0_cond1 i k0_t3 = 1#1), ∀ a x, ((![v392, v429] : Fin 2 → IVec S16 32) a x).toNat < S512x128.size a)
theorem k0_idx72_inb : ∀ (i : grid0.Coords) (k0_t3 : Fin k0_t3_loop.trips) (v392 : IVec S16 32) (v429 : IVec S16 32) (k0_hw72 : k0_chk72 i k0_t3 v392 v429), ∀ (k0_h1 : k0_cond1 i k0_t3 = 1#1), ∀ a x, ((![v392, v429] : Fin 2 → IVec S16 32) a x).toNat < S512x128.size a := fun i k0_t3 v392 v429 k0_hw72 k0_h1 => k0_hw72 k0_h1
def k0_off77 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32 : BitVec 32 := 9#32
  let v438 : BitVec 32 := Scalar.addi v43 c9_i32
  let v439 : Index := Scalar.indexCast v438
  let c0_224 : Index := 0#32
  ![v439.toNat, 0]

def k0_chk73 (i : grid0.Coords) (k0_t3 : Fin k0_t3_loop.trips) (v435 : IVec S16 32) (v437 : IVec S16 32) : Prop :=
  (∀ (k0_h1 : k0_cond1 i k0_t3 = 1#1), ∀ a x, ((![v435, v437] : Fin 2 → IVec S16 32) a x).toNat < S512x128.size a)
theorem k0_idx73_inb : ∀ (i : grid0.Coords) (k0_t3 : Fin k0_t3_loop.trips) (v435 : IVec S16 32) (v437 : IVec S16 32) (k0_hw73 : k0_chk73 i k0_t3 v435 v437), ∀ (k0_h1 : k0_cond1 i k0_t3 = 1#1), ∀ a x, ((![v435, v437] : Fin 2 → IVec S16 32) a x).toNat < S512x128.size a := fun i k0_t3 v435 v437 k0_hw73 k0_h1 => k0_hw73 k0_h1
def k0_off78 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_226 : BitVec 32 := 9#32
  let v443 : BitVec 32 := Scalar.addi v43 c9_i32_226
  let v444 : Index := Scalar.indexCast v443
  let c16_227 : Index := 16#32
  ![v444.toNat, 16]

def k0_chk74 (i : grid0.Coords) (k0_t3 : Fin k0_t3_loop.trips) (v435 : IVec S16 32) (v442 : IVec S16 32) : Prop :=
  (∀ (k0_h1 : k0_cond1 i k0_t3 = 1#1), ∀ a x, ((![v435, v442] : Fin 2 → IVec S16 32) a x).toNat < S512x128.size a)
theorem k0_idx74_inb : ∀ (i : grid0.Coords) (k0_t3 : Fin k0_t3_loop.trips) (v435 : IVec S16 32) (v442 : IVec S16 32) (k0_hw74 : k0_chk74 i k0_t3 v435 v442), ∀ (k0_h1 : k0_cond1 i k0_t3 = 1#1), ∀ a x, ((![v435, v442] : Fin 2 → IVec S16 32) a x).toNat < S512x128.size a := fun i k0_t3 v435 v442 k0_hw74 k0_h1 => k0_hw74 k0_h1
def k0_off79 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_229 : BitVec 32 := 9#32
  let v448 : BitVec 32 := Scalar.addi v43 c9_i32_229
  let v449 : Index := Scalar.indexCast v448
  let c32_230 : Index := 32#32
  ![v449.toNat, 32]

def k0_chk75 (i : grid0.Coords) (k0_t3 : Fin k0_t3_loop.trips) (v435 : IVec S16 32) (v447 : IVec S16 32) : Prop :=
  (∀ (k0_h1 : k0_cond1 i k0_t3 = 1#1), ∀ a x, ((![v435, v447] : Fin 2 → IVec S16 32) a x).toNat < S512x128.size a)
theorem k0_idx75_inb : ∀ (i : grid0.Coords) (k0_t3 : Fin k0_t3_loop.trips) (v435 : IVec S16 32) (v447 : IVec S16 32) (k0_hw75 : k0_chk75 i k0_t3 v435 v447), ∀ (k0_h1 : k0_cond1 i k0_t3 = 1#1), ∀ a x, ((![v435, v447] : Fin 2 → IVec S16 32) a x).toNat < S512x128.size a := fun i k0_t3 v435 v447 k0_hw75 k0_h1 => k0_hw75 k0_h1
def k0_off80 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_232 : BitVec 32 := 9#32
  let v453 : BitVec 32 := Scalar.addi v43 c9_i32_232
  let v454 : Index := Scalar.indexCast v453
  let c48_233 : Index := 48#32
  ![v454.toNat, 48]

def k0_chk76 (i : grid0.Coords) (k0_t3 : Fin k0_t3_loop.trips) (v435 : IVec S16 32) (v452 : IVec S16 32) : Prop :=
  (∀ (k0_h1 : k0_cond1 i k0_t3 = 1#1), ∀ a x, ((![v435, v452] : Fin 2 → IVec S16 32) a x).toNat < S512x128.size a)
theorem k0_idx76_inb : ∀ (i : grid0.Coords) (k0_t3 : Fin k0_t3_loop.trips) (v435 : IVec S16 32) (v452 : IVec S16 32) (k0_hw76 : k0_chk76 i k0_t3 v435 v452), ∀ (k0_h1 : k0_cond1 i k0_t3 = 1#1), ∀ a x, ((![v435, v452] : Fin 2 → IVec S16 32) a x).toNat < S512x128.size a := fun i k0_t3 v435 v452 k0_hw76 k0_h1 => k0_hw76 k0_h1
def k0_off81 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_235 : BitVec 32 := 9#32
  let v458 : BitVec 32 := Scalar.addi v43 c9_i32_235
  let v459 : Index := Scalar.indexCast v458
  let c64_236 : Index := 64#32
  ![v459.toNat, 64]

def k0_chk77 (i : grid0.Coords) (k0_t3 : Fin k0_t3_loop.trips) (v435 : IVec S16 32) (v457 : IVec S16 32) : Prop :=
  (∀ (k0_h1 : k0_cond1 i k0_t3 = 1#1), ∀ a x, ((![v435, v457] : Fin 2 → IVec S16 32) a x).toNat < S512x128.size a)
theorem k0_idx77_inb : ∀ (i : grid0.Coords) (k0_t3 : Fin k0_t3_loop.trips) (v435 : IVec S16 32) (v457 : IVec S16 32) (k0_hw77 : k0_chk77 i k0_t3 v435 v457), ∀ (k0_h1 : k0_cond1 i k0_t3 = 1#1), ∀ a x, ((![v435, v457] : Fin 2 → IVec S16 32) a x).toNat < S512x128.size a := fun i k0_t3 v435 v457 k0_hw77 k0_h1 => k0_hw77 k0_h1
def k0_off82 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_238 : BitVec 32 := 9#32
  let v463 : BitVec 32 := Scalar.addi v43 c9_i32_238
  let v464 : Index := Scalar.indexCast v463
  let c80_239 : Index := 80#32
  ![v464.toNat, 80]

def k0_chk78 (i : grid0.Coords) (k0_t3 : Fin k0_t3_loop.trips) (v435 : IVec S16 32) (v462 : IVec S16 32) : Prop :=
  (∀ (k0_h1 : k0_cond1 i k0_t3 = 1#1), ∀ a x, ((![v435, v462] : Fin 2 → IVec S16 32) a x).toNat < S512x128.size a)
theorem k0_idx78_inb : ∀ (i : grid0.Coords) (k0_t3 : Fin k0_t3_loop.trips) (v435 : IVec S16 32) (v462 : IVec S16 32) (k0_hw78 : k0_chk78 i k0_t3 v435 v462), ∀ (k0_h1 : k0_cond1 i k0_t3 = 1#1), ∀ a x, ((![v435, v462] : Fin 2 → IVec S16 32) a x).toNat < S512x128.size a := fun i k0_t3 v435 v462 k0_hw78 k0_h1 => k0_hw78 k0_h1
def k0_off83 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_241 : BitVec 32 := 9#32
  let v468 : BitVec 32 := Scalar.addi v43 c9_i32_241
  let v469 : Index := Scalar.indexCast v468
  let c96_242 : Index := 96#32
  ![v469.toNat, 96]

def k0_chk79 (i : grid0.Coords) (k0_t3 : Fin k0_t3_loop.trips) (v435 : IVec S16 32) (v467 : IVec S16 32) : Prop :=
  (∀ (k0_h1 : k0_cond1 i k0_t3 = 1#1), ∀ a x, ((![v435, v467] : Fin 2 → IVec S16 32) a x).toNat < S512x128.size a)
theorem k0_idx79_inb : ∀ (i : grid0.Coords) (k0_t3 : Fin k0_t3_loop.trips) (v435 : IVec S16 32) (v467 : IVec S16 32) (k0_hw79 : k0_chk79 i k0_t3 v435 v467), ∀ (k0_h1 : k0_cond1 i k0_t3 = 1#1), ∀ a x, ((![v435, v467] : Fin 2 → IVec S16 32) a x).toNat < S512x128.size a := fun i k0_t3 v435 v467 k0_hw79 k0_h1 => k0_hw79 k0_h1
def k0_off84 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c9_i32_244 : BitVec 32 := 9#32
  let v473 : BitVec 32 := Scalar.addi v43 c9_i32_244
  let v474 : Index := Scalar.indexCast v473
  let c112_245 : Index := 112#32
  ![v474.toNat, 112]

def k0_chk80 (i : grid0.Coords) (k0_t3 : Fin k0_t3_loop.trips) (v435 : IVec S16 32) (v472 : IVec S16 32) : Prop :=
  (∀ (k0_h1 : k0_cond1 i k0_t3 = 1#1), ∀ a x, ((![v435, v472] : Fin 2 → IVec S16 32) a x).toNat < S512x128.size a)
theorem k0_idx80_inb : ∀ (i : grid0.Coords) (k0_t3 : Fin k0_t3_loop.trips) (v435 : IVec S16 32) (v472 : IVec S16 32) (k0_hw80 : k0_chk80 i k0_t3 v435 v472), ∀ (k0_h1 : k0_cond1 i k0_t3 = 1#1), ∀ a x, ((![v435, v472] : Fin 2 → IVec S16 32) a x).toNat < S512x128.size a := fun i k0_t3 v435 v472 k0_hw80 k0_h1 => k0_hw80 k0_h1
def k0_off85 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32 : BitVec 32 := 10#32
  let v481 : BitVec 32 := Scalar.addi v43 c10_i32
  let v482 : Index := Scalar.indexCast v481
  let c0_247 : Index := 0#32
  ![v482.toNat, 0]

def k0_chk81 (i : grid0.Coords) (k0_t3 : Fin k0_t3_loop.trips) (v478 : IVec S16 32) (v480 : IVec S16 32) : Prop :=
  (∀ (k0_h1 : k0_cond1 i k0_t3 = 1#1), ∀ a x, ((![v478, v480] : Fin 2 → IVec S16 32) a x).toNat < S512x128.size a)
theorem k0_idx81_inb : ∀ (i : grid0.Coords) (k0_t3 : Fin k0_t3_loop.trips) (v478 : IVec S16 32) (v480 : IVec S16 32) (k0_hw81 : k0_chk81 i k0_t3 v478 v480), ∀ (k0_h1 : k0_cond1 i k0_t3 = 1#1), ∀ a x, ((![v478, v480] : Fin 2 → IVec S16 32) a x).toNat < S512x128.size a := fun i k0_t3 v478 v480 k0_hw81 k0_h1 => k0_hw81 k0_h1
def k0_off86 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_249 : BitVec 32 := 10#32
  let v486 : BitVec 32 := Scalar.addi v43 c10_i32_249
  let v487 : Index := Scalar.indexCast v486
  let c16_250 : Index := 16#32
  ![v487.toNat, 16]

def k0_chk82 (i : grid0.Coords) (k0_t3 : Fin k0_t3_loop.trips) (v478 : IVec S16 32) (v485 : IVec S16 32) : Prop :=
  (∀ (k0_h1 : k0_cond1 i k0_t3 = 1#1), ∀ a x, ((![v478, v485] : Fin 2 → IVec S16 32) a x).toNat < S512x128.size a)
theorem k0_idx82_inb : ∀ (i : grid0.Coords) (k0_t3 : Fin k0_t3_loop.trips) (v478 : IVec S16 32) (v485 : IVec S16 32) (k0_hw82 : k0_chk82 i k0_t3 v478 v485), ∀ (k0_h1 : k0_cond1 i k0_t3 = 1#1), ∀ a x, ((![v478, v485] : Fin 2 → IVec S16 32) a x).toNat < S512x128.size a := fun i k0_t3 v478 v485 k0_hw82 k0_h1 => k0_hw82 k0_h1
def k0_off87 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_252 : BitVec 32 := 10#32
  let v491 : BitVec 32 := Scalar.addi v43 c10_i32_252
  let v492 : Index := Scalar.indexCast v491
  let c32_253 : Index := 32#32
  ![v492.toNat, 32]

def k0_chk83 (i : grid0.Coords) (k0_t3 : Fin k0_t3_loop.trips) (v478 : IVec S16 32) (v490 : IVec S16 32) : Prop :=
  (∀ (k0_h1 : k0_cond1 i k0_t3 = 1#1), ∀ a x, ((![v478, v490] : Fin 2 → IVec S16 32) a x).toNat < S512x128.size a)
theorem k0_idx83_inb : ∀ (i : grid0.Coords) (k0_t3 : Fin k0_t3_loop.trips) (v478 : IVec S16 32) (v490 : IVec S16 32) (k0_hw83 : k0_chk83 i k0_t3 v478 v490), ∀ (k0_h1 : k0_cond1 i k0_t3 = 1#1), ∀ a x, ((![v478, v490] : Fin 2 → IVec S16 32) a x).toNat < S512x128.size a := fun i k0_t3 v478 v490 k0_hw83 k0_h1 => k0_hw83 k0_h1
def k0_off88 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_255 : BitVec 32 := 10#32
  let v496 : BitVec 32 := Scalar.addi v43 c10_i32_255
  let v497 : Index := Scalar.indexCast v496
  let c48_256 : Index := 48#32
  ![v497.toNat, 48]

def k0_chk84 (i : grid0.Coords) (k0_t3 : Fin k0_t3_loop.trips) (v478 : IVec S16 32) (v495 : IVec S16 32) : Prop :=
  (∀ (k0_h1 : k0_cond1 i k0_t3 = 1#1), ∀ a x, ((![v478, v495] : Fin 2 → IVec S16 32) a x).toNat < S512x128.size a)
theorem k0_idx84_inb : ∀ (i : grid0.Coords) (k0_t3 : Fin k0_t3_loop.trips) (v478 : IVec S16 32) (v495 : IVec S16 32) (k0_hw84 : k0_chk84 i k0_t3 v478 v495), ∀ (k0_h1 : k0_cond1 i k0_t3 = 1#1), ∀ a x, ((![v478, v495] : Fin 2 → IVec S16 32) a x).toNat < S512x128.size a := fun i k0_t3 v478 v495 k0_hw84 k0_h1 => k0_hw84 k0_h1
def k0_off89 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_258 : BitVec 32 := 10#32
  let v501 : BitVec 32 := Scalar.addi v43 c10_i32_258
  let v502 : Index := Scalar.indexCast v501
  let c64_259 : Index := 64#32
  ![v502.toNat, 64]

def k0_chk85 (i : grid0.Coords) (k0_t3 : Fin k0_t3_loop.trips) (v478 : IVec S16 32) (v500 : IVec S16 32) : Prop :=
  (∀ (k0_h1 : k0_cond1 i k0_t3 = 1#1), ∀ a x, ((![v478, v500] : Fin 2 → IVec S16 32) a x).toNat < S512x128.size a)
theorem k0_idx85_inb : ∀ (i : grid0.Coords) (k0_t3 : Fin k0_t3_loop.trips) (v478 : IVec S16 32) (v500 : IVec S16 32) (k0_hw85 : k0_chk85 i k0_t3 v478 v500), ∀ (k0_h1 : k0_cond1 i k0_t3 = 1#1), ∀ a x, ((![v478, v500] : Fin 2 → IVec S16 32) a x).toNat < S512x128.size a := fun i k0_t3 v478 v500 k0_hw85 k0_h1 => k0_hw85 k0_h1
def k0_off90 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_261 : BitVec 32 := 10#32
  let v506 : BitVec 32 := Scalar.addi v43 c10_i32_261
  let v507 : Index := Scalar.indexCast v506
  let c80_262 : Index := 80#32
  ![v507.toNat, 80]

def k0_chk86 (i : grid0.Coords) (k0_t3 : Fin k0_t3_loop.trips) (v478 : IVec S16 32) (v505 : IVec S16 32) : Prop :=
  (∀ (k0_h1 : k0_cond1 i k0_t3 = 1#1), ∀ a x, ((![v478, v505] : Fin 2 → IVec S16 32) a x).toNat < S512x128.size a)
theorem k0_idx86_inb : ∀ (i : grid0.Coords) (k0_t3 : Fin k0_t3_loop.trips) (v478 : IVec S16 32) (v505 : IVec S16 32) (k0_hw86 : k0_chk86 i k0_t3 v478 v505), ∀ (k0_h1 : k0_cond1 i k0_t3 = 1#1), ∀ a x, ((![v478, v505] : Fin 2 → IVec S16 32) a x).toNat < S512x128.size a := fun i k0_t3 v478 v505 k0_hw86 k0_h1 => k0_hw86 k0_h1
def k0_off91 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_264 : BitVec 32 := 10#32
  let v511 : BitVec 32 := Scalar.addi v43 c10_i32_264
  let v512 : Index := Scalar.indexCast v511
  let c96_265 : Index := 96#32
  ![v512.toNat, 96]

def k0_chk87 (i : grid0.Coords) (k0_t3 : Fin k0_t3_loop.trips) (v478 : IVec S16 32) (v510 : IVec S16 32) : Prop :=
  (∀ (k0_h1 : k0_cond1 i k0_t3 = 1#1), ∀ a x, ((![v478, v510] : Fin 2 → IVec S16 32) a x).toNat < S512x128.size a)
theorem k0_idx87_inb : ∀ (i : grid0.Coords) (k0_t3 : Fin k0_t3_loop.trips) (v478 : IVec S16 32) (v510 : IVec S16 32) (k0_hw87 : k0_chk87 i k0_t3 v478 v510), ∀ (k0_h1 : k0_cond1 i k0_t3 = 1#1), ∀ a x, ((![v478, v510] : Fin 2 → IVec S16 32) a x).toNat < S512x128.size a := fun i k0_t3 v478 v510 k0_hw87 k0_h1 => k0_hw87 k0_h1
def k0_off92 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c10_i32_267 : BitVec 32 := 10#32
  let v516 : BitVec 32 := Scalar.addi v43 c10_i32_267
  let v517 : Index := Scalar.indexCast v516
  let c112_268 : Index := 112#32
  ![v517.toNat, 112]

def k0_chk88 (i : grid0.Coords) (k0_t3 : Fin k0_t3_loop.trips) (v478 : IVec S16 32) (v515 : IVec S16 32) : Prop :=
  (∀ (k0_h1 : k0_cond1 i k0_t3 = 1#1), ∀ a x, ((![v478, v515] : Fin 2 → IVec S16 32) a x).toNat < S512x128.size a)
theorem k0_idx88_inb : ∀ (i : grid0.Coords) (k0_t3 : Fin k0_t3_loop.trips) (v478 : IVec S16 32) (v515 : IVec S16 32) (k0_hw88 : k0_chk88 i k0_t3 v478 v515), ∀ (k0_h1 : k0_cond1 i k0_t3 = 1#1), ∀ a x, ((![v478, v515] : Fin 2 → IVec S16 32) a x).toNat < S512x128.size a := fun i k0_t3 v478 v515 k0_hw88 k0_h1 => k0_hw88 k0_h1
def k0_off93 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32 : BitVec 32 := 11#32
  let v524 : BitVec 32 := Scalar.addi v43 c11_i32
  let v525 : Index := Scalar.indexCast v524
  let c0_270 : Index := 0#32
  ![v525.toNat, 0]

def k0_chk89 (i : grid0.Coords) (k0_t3 : Fin k0_t3_loop.trips) (v521 : IVec S16 32) (v523 : IVec S16 32) : Prop :=
  (∀ (k0_h1 : k0_cond1 i k0_t3 = 1#1), ∀ a x, ((![v521, v523] : Fin 2 → IVec S16 32) a x).toNat < S512x128.size a)
theorem k0_idx89_inb : ∀ (i : grid0.Coords) (k0_t3 : Fin k0_t3_loop.trips) (v521 : IVec S16 32) (v523 : IVec S16 32) (k0_hw89 : k0_chk89 i k0_t3 v521 v523), ∀ (k0_h1 : k0_cond1 i k0_t3 = 1#1), ∀ a x, ((![v521, v523] : Fin 2 → IVec S16 32) a x).toNat < S512x128.size a := fun i k0_t3 v521 v523 k0_hw89 k0_h1 => k0_hw89 k0_h1
def k0_off94 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_272 : BitVec 32 := 11#32
  let v529 : BitVec 32 := Scalar.addi v43 c11_i32_272
  let v530 : Index := Scalar.indexCast v529
  let c16_273 : Index := 16#32
  ![v530.toNat, 16]

def k0_chk90 (i : grid0.Coords) (k0_t3 : Fin k0_t3_loop.trips) (v521 : IVec S16 32) (v528 : IVec S16 32) : Prop :=
  (∀ (k0_h1 : k0_cond1 i k0_t3 = 1#1), ∀ a x, ((![v521, v528] : Fin 2 → IVec S16 32) a x).toNat < S512x128.size a)
theorem k0_idx90_inb : ∀ (i : grid0.Coords) (k0_t3 : Fin k0_t3_loop.trips) (v521 : IVec S16 32) (v528 : IVec S16 32) (k0_hw90 : k0_chk90 i k0_t3 v521 v528), ∀ (k0_h1 : k0_cond1 i k0_t3 = 1#1), ∀ a x, ((![v521, v528] : Fin 2 → IVec S16 32) a x).toNat < S512x128.size a := fun i k0_t3 v521 v528 k0_hw90 k0_h1 => k0_hw90 k0_h1
def k0_off95 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_275 : BitVec 32 := 11#32
  let v534 : BitVec 32 := Scalar.addi v43 c11_i32_275
  let v535 : Index := Scalar.indexCast v534
  let c32_276 : Index := 32#32
  ![v535.toNat, 32]

def k0_chk91 (i : grid0.Coords) (k0_t3 : Fin k0_t3_loop.trips) (v521 : IVec S16 32) (v533 : IVec S16 32) : Prop :=
  (∀ (k0_h1 : k0_cond1 i k0_t3 = 1#1), ∀ a x, ((![v521, v533] : Fin 2 → IVec S16 32) a x).toNat < S512x128.size a)
theorem k0_idx91_inb : ∀ (i : grid0.Coords) (k0_t3 : Fin k0_t3_loop.trips) (v521 : IVec S16 32) (v533 : IVec S16 32) (k0_hw91 : k0_chk91 i k0_t3 v521 v533), ∀ (k0_h1 : k0_cond1 i k0_t3 = 1#1), ∀ a x, ((![v521, v533] : Fin 2 → IVec S16 32) a x).toNat < S512x128.size a := fun i k0_t3 v521 v533 k0_hw91 k0_h1 => k0_hw91 k0_h1
def k0_off96 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_278 : BitVec 32 := 11#32
  let v539 : BitVec 32 := Scalar.addi v43 c11_i32_278
  let v540 : Index := Scalar.indexCast v539
  let c48_279 : Index := 48#32
  ![v540.toNat, 48]

def k0_chk92 (i : grid0.Coords) (k0_t3 : Fin k0_t3_loop.trips) (v521 : IVec S16 32) (v538 : IVec S16 32) : Prop :=
  (∀ (k0_h1 : k0_cond1 i k0_t3 = 1#1), ∀ a x, ((![v521, v538] : Fin 2 → IVec S16 32) a x).toNat < S512x128.size a)
theorem k0_idx92_inb : ∀ (i : grid0.Coords) (k0_t3 : Fin k0_t3_loop.trips) (v521 : IVec S16 32) (v538 : IVec S16 32) (k0_hw92 : k0_chk92 i k0_t3 v521 v538), ∀ (k0_h1 : k0_cond1 i k0_t3 = 1#1), ∀ a x, ((![v521, v538] : Fin 2 → IVec S16 32) a x).toNat < S512x128.size a := fun i k0_t3 v521 v538 k0_hw92 k0_h1 => k0_hw92 k0_h1
def k0_off97 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_281 : BitVec 32 := 11#32
  let v544 : BitVec 32 := Scalar.addi v43 c11_i32_281
  let v545 : Index := Scalar.indexCast v544
  let c64_282 : Index := 64#32
  ![v545.toNat, 64]

def k0_chk93 (i : grid0.Coords) (k0_t3 : Fin k0_t3_loop.trips) (v521 : IVec S16 32) (v543 : IVec S16 32) : Prop :=
  (∀ (k0_h1 : k0_cond1 i k0_t3 = 1#1), ∀ a x, ((![v521, v543] : Fin 2 → IVec S16 32) a x).toNat < S512x128.size a)
theorem k0_idx93_inb : ∀ (i : grid0.Coords) (k0_t3 : Fin k0_t3_loop.trips) (v521 : IVec S16 32) (v543 : IVec S16 32) (k0_hw93 : k0_chk93 i k0_t3 v521 v543), ∀ (k0_h1 : k0_cond1 i k0_t3 = 1#1), ∀ a x, ((![v521, v543] : Fin 2 → IVec S16 32) a x).toNat < S512x128.size a := fun i k0_t3 v521 v543 k0_hw93 k0_h1 => k0_hw93 k0_h1
def k0_off98 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_284 : BitVec 32 := 11#32
  let v549 : BitVec 32 := Scalar.addi v43 c11_i32_284
  let v550 : Index := Scalar.indexCast v549
  let c80_285 : Index := 80#32
  ![v550.toNat, 80]

def k0_chk94 (i : grid0.Coords) (k0_t3 : Fin k0_t3_loop.trips) (v521 : IVec S16 32) (v548 : IVec S16 32) : Prop :=
  (∀ (k0_h1 : k0_cond1 i k0_t3 = 1#1), ∀ a x, ((![v521, v548] : Fin 2 → IVec S16 32) a x).toNat < S512x128.size a)
theorem k0_idx94_inb : ∀ (i : grid0.Coords) (k0_t3 : Fin k0_t3_loop.trips) (v521 : IVec S16 32) (v548 : IVec S16 32) (k0_hw94 : k0_chk94 i k0_t3 v521 v548), ∀ (k0_h1 : k0_cond1 i k0_t3 = 1#1), ∀ a x, ((![v521, v548] : Fin 2 → IVec S16 32) a x).toNat < S512x128.size a := fun i k0_t3 v521 v548 k0_hw94 k0_h1 => k0_hw94 k0_h1
def k0_off99 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_287 : BitVec 32 := 11#32
  let v554 : BitVec 32 := Scalar.addi v43 c11_i32_287
  let v555 : Index := Scalar.indexCast v554
  let c96_288 : Index := 96#32
  ![v555.toNat, 96]

def k0_chk95 (i : grid0.Coords) (k0_t3 : Fin k0_t3_loop.trips) (v521 : IVec S16 32) (v553 : IVec S16 32) : Prop :=
  (∀ (k0_h1 : k0_cond1 i k0_t3 = 1#1), ∀ a x, ((![v521, v553] : Fin 2 → IVec S16 32) a x).toNat < S512x128.size a)
theorem k0_idx95_inb : ∀ (i : grid0.Coords) (k0_t3 : Fin k0_t3_loop.trips) (v521 : IVec S16 32) (v553 : IVec S16 32) (k0_hw95 : k0_chk95 i k0_t3 v521 v553), ∀ (k0_h1 : k0_cond1 i k0_t3 = 1#1), ∀ a x, ((![v521, v553] : Fin 2 → IVec S16 32) a x).toNat < S512x128.size a := fun i k0_t3 v521 v553 k0_hw95 k0_h1 => k0_hw95 k0_h1
def k0_off100 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c11_i32_290 : BitVec 32 := 11#32
  let v559 : BitVec 32 := Scalar.addi v43 c11_i32_290
  let v560 : Index := Scalar.indexCast v559
  let c112_291 : Index := 112#32
  ![v560.toNat, 112]

def k0_chk96 (i : grid0.Coords) (k0_t3 : Fin k0_t3_loop.trips) (v521 : IVec S16 32) (v558 : IVec S16 32) : Prop :=
  (∀ (k0_h1 : k0_cond1 i k0_t3 = 1#1), ∀ a x, ((![v521, v558] : Fin 2 → IVec S16 32) a x).toNat < S512x128.size a)
theorem k0_idx96_inb : ∀ (i : grid0.Coords) (k0_t3 : Fin k0_t3_loop.trips) (v521 : IVec S16 32) (v558 : IVec S16 32) (k0_hw96 : k0_chk96 i k0_t3 v521 v558), ∀ (k0_h1 : k0_cond1 i k0_t3 = 1#1), ∀ a x, ((![v521, v558] : Fin 2 → IVec S16 32) a x).toNat < S512x128.size a := fun i k0_t3 v521 v558 k0_hw96 k0_h1 => k0_hw96 k0_h1
def k0_off101 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32 : BitVec 32 := 12#32
  let v567 : BitVec 32 := Scalar.addi v43 c12_i32
  let v568 : Index := Scalar.indexCast v567
  let c0_293 : Index := 0#32
  ![v568.toNat, 0]

def k0_chk97 (i : grid0.Coords) (k0_t3 : Fin k0_t3_loop.trips) (v564 : IVec S16 32) (v566 : IVec S16 32) : Prop :=
  (∀ (k0_h1 : k0_cond1 i k0_t3 = 1#1), ∀ a x, ((![v564, v566] : Fin 2 → IVec S16 32) a x).toNat < S512x128.size a)
theorem k0_idx97_inb : ∀ (i : grid0.Coords) (k0_t3 : Fin k0_t3_loop.trips) (v564 : IVec S16 32) (v566 : IVec S16 32) (k0_hw97 : k0_chk97 i k0_t3 v564 v566), ∀ (k0_h1 : k0_cond1 i k0_t3 = 1#1), ∀ a x, ((![v564, v566] : Fin 2 → IVec S16 32) a x).toNat < S512x128.size a := fun i k0_t3 v564 v566 k0_hw97 k0_h1 => k0_hw97 k0_h1
def k0_off102 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_295 : BitVec 32 := 12#32
  let v572 : BitVec 32 := Scalar.addi v43 c12_i32_295
  let v573 : Index := Scalar.indexCast v572
  let c16_296 : Index := 16#32
  ![v573.toNat, 16]

def k0_chk98 (i : grid0.Coords) (k0_t3 : Fin k0_t3_loop.trips) (v564 : IVec S16 32) (v571 : IVec S16 32) : Prop :=
  (∀ (k0_h1 : k0_cond1 i k0_t3 = 1#1), ∀ a x, ((![v564, v571] : Fin 2 → IVec S16 32) a x).toNat < S512x128.size a)
theorem k0_idx98_inb : ∀ (i : grid0.Coords) (k0_t3 : Fin k0_t3_loop.trips) (v564 : IVec S16 32) (v571 : IVec S16 32) (k0_hw98 : k0_chk98 i k0_t3 v564 v571), ∀ (k0_h1 : k0_cond1 i k0_t3 = 1#1), ∀ a x, ((![v564, v571] : Fin 2 → IVec S16 32) a x).toNat < S512x128.size a := fun i k0_t3 v564 v571 k0_hw98 k0_h1 => k0_hw98 k0_h1
def k0_off103 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_298 : BitVec 32 := 12#32
  let v577 : BitVec 32 := Scalar.addi v43 c12_i32_298
  let v578 : Index := Scalar.indexCast v577
  let c32_299 : Index := 32#32
  ![v578.toNat, 32]

def k0_chk99 (i : grid0.Coords) (k0_t3 : Fin k0_t3_loop.trips) (v564 : IVec S16 32) (v576 : IVec S16 32) : Prop :=
  (∀ (k0_h1 : k0_cond1 i k0_t3 = 1#1), ∀ a x, ((![v564, v576] : Fin 2 → IVec S16 32) a x).toNat < S512x128.size a)
theorem k0_idx99_inb : ∀ (i : grid0.Coords) (k0_t3 : Fin k0_t3_loop.trips) (v564 : IVec S16 32) (v576 : IVec S16 32) (k0_hw99 : k0_chk99 i k0_t3 v564 v576), ∀ (k0_h1 : k0_cond1 i k0_t3 = 1#1), ∀ a x, ((![v564, v576] : Fin 2 → IVec S16 32) a x).toNat < S512x128.size a := fun i k0_t3 v564 v576 k0_hw99 k0_h1 => k0_hw99 k0_h1
def k0_off104 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_301 : BitVec 32 := 12#32
  let v582 : BitVec 32 := Scalar.addi v43 c12_i32_301
  let v583 : Index := Scalar.indexCast v582
  let c48_302 : Index := 48#32
  ![v583.toNat, 48]

def k0_chk100 (i : grid0.Coords) (k0_t3 : Fin k0_t3_loop.trips) (v564 : IVec S16 32) (v581 : IVec S16 32) : Prop :=
  (∀ (k0_h1 : k0_cond1 i k0_t3 = 1#1), ∀ a x, ((![v564, v581] : Fin 2 → IVec S16 32) a x).toNat < S512x128.size a)
theorem k0_idx100_inb : ∀ (i : grid0.Coords) (k0_t3 : Fin k0_t3_loop.trips) (v564 : IVec S16 32) (v581 : IVec S16 32) (k0_hw100 : k0_chk100 i k0_t3 v564 v581), ∀ (k0_h1 : k0_cond1 i k0_t3 = 1#1), ∀ a x, ((![v564, v581] : Fin 2 → IVec S16 32) a x).toNat < S512x128.size a := fun i k0_t3 v564 v581 k0_hw100 k0_h1 => k0_hw100 k0_h1
def k0_off105 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_304 : BitVec 32 := 12#32
  let v587 : BitVec 32 := Scalar.addi v43 c12_i32_304
  let v588 : Index := Scalar.indexCast v587
  let c64_305 : Index := 64#32
  ![v588.toNat, 64]

def k0_chk101 (i : grid0.Coords) (k0_t3 : Fin k0_t3_loop.trips) (v564 : IVec S16 32) (v586 : IVec S16 32) : Prop :=
  (∀ (k0_h1 : k0_cond1 i k0_t3 = 1#1), ∀ a x, ((![v564, v586] : Fin 2 → IVec S16 32) a x).toNat < S512x128.size a)
theorem k0_idx101_inb : ∀ (i : grid0.Coords) (k0_t3 : Fin k0_t3_loop.trips) (v564 : IVec S16 32) (v586 : IVec S16 32) (k0_hw101 : k0_chk101 i k0_t3 v564 v586), ∀ (k0_h1 : k0_cond1 i k0_t3 = 1#1), ∀ a x, ((![v564, v586] : Fin 2 → IVec S16 32) a x).toNat < S512x128.size a := fun i k0_t3 v564 v586 k0_hw101 k0_h1 => k0_hw101 k0_h1
def k0_off106 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_307 : BitVec 32 := 12#32
  let v592 : BitVec 32 := Scalar.addi v43 c12_i32_307
  let v593 : Index := Scalar.indexCast v592
  let c80_308 : Index := 80#32
  ![v593.toNat, 80]

def k0_chk102 (i : grid0.Coords) (k0_t3 : Fin k0_t3_loop.trips) (v564 : IVec S16 32) (v591 : IVec S16 32) : Prop :=
  (∀ (k0_h1 : k0_cond1 i k0_t3 = 1#1), ∀ a x, ((![v564, v591] : Fin 2 → IVec S16 32) a x).toNat < S512x128.size a)
theorem k0_idx102_inb : ∀ (i : grid0.Coords) (k0_t3 : Fin k0_t3_loop.trips) (v564 : IVec S16 32) (v591 : IVec S16 32) (k0_hw102 : k0_chk102 i k0_t3 v564 v591), ∀ (k0_h1 : k0_cond1 i k0_t3 = 1#1), ∀ a x, ((![v564, v591] : Fin 2 → IVec S16 32) a x).toNat < S512x128.size a := fun i k0_t3 v564 v591 k0_hw102 k0_h1 => k0_hw102 k0_h1
def k0_off107 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_310 : BitVec 32 := 12#32
  let v597 : BitVec 32 := Scalar.addi v43 c12_i32_310
  let v598 : Index := Scalar.indexCast v597
  let c96_311 : Index := 96#32
  ![v598.toNat, 96]

def k0_chk103 (i : grid0.Coords) (k0_t3 : Fin k0_t3_loop.trips) (v564 : IVec S16 32) (v596 : IVec S16 32) : Prop :=
  (∀ (k0_h1 : k0_cond1 i k0_t3 = 1#1), ∀ a x, ((![v564, v596] : Fin 2 → IVec S16 32) a x).toNat < S512x128.size a)
theorem k0_idx103_inb : ∀ (i : grid0.Coords) (k0_t3 : Fin k0_t3_loop.trips) (v564 : IVec S16 32) (v596 : IVec S16 32) (k0_hw103 : k0_chk103 i k0_t3 v564 v596), ∀ (k0_h1 : k0_cond1 i k0_t3 = 1#1), ∀ a x, ((![v564, v596] : Fin 2 → IVec S16 32) a x).toNat < S512x128.size a := fun i k0_t3 v564 v596 k0_hw103 k0_h1 => k0_hw103 k0_h1
def k0_off108 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c12_i32_313 : BitVec 32 := 12#32
  let v602 : BitVec 32 := Scalar.addi v43 c12_i32_313
  let v603 : Index := Scalar.indexCast v602
  let c112_314 : Index := 112#32
  ![v603.toNat, 112]

def k0_chk104 (i : grid0.Coords) (k0_t3 : Fin k0_t3_loop.trips) (v564 : IVec S16 32) (v601 : IVec S16 32) : Prop :=
  (∀ (k0_h1 : k0_cond1 i k0_t3 = 1#1), ∀ a x, ((![v564, v601] : Fin 2 → IVec S16 32) a x).toNat < S512x128.size a)
theorem k0_idx104_inb : ∀ (i : grid0.Coords) (k0_t3 : Fin k0_t3_loop.trips) (v564 : IVec S16 32) (v601 : IVec S16 32) (k0_hw104 : k0_chk104 i k0_t3 v564 v601), ∀ (k0_h1 : k0_cond1 i k0_t3 = 1#1), ∀ a x, ((![v564, v601] : Fin 2 → IVec S16 32) a x).toNat < S512x128.size a := fun i k0_t3 v564 v601 k0_hw104 k0_h1 => k0_hw104 k0_h1
def k0_off109 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32 : BitVec 32 := 13#32
  let v610 : BitVec 32 := Scalar.addi v43 c13_i32
  let v611 : Index := Scalar.indexCast v610
  let c0_316 : Index := 0#32
  ![v611.toNat, 0]

def k0_chk105 (i : grid0.Coords) (k0_t3 : Fin k0_t3_loop.trips) (v607 : IVec S16 32) (v609 : IVec S16 32) : Prop :=
  (∀ (k0_h1 : k0_cond1 i k0_t3 = 1#1), ∀ a x, ((![v607, v609] : Fin 2 → IVec S16 32) a x).toNat < S512x128.size a)
theorem k0_idx105_inb : ∀ (i : grid0.Coords) (k0_t3 : Fin k0_t3_loop.trips) (v607 : IVec S16 32) (v609 : IVec S16 32) (k0_hw105 : k0_chk105 i k0_t3 v607 v609), ∀ (k0_h1 : k0_cond1 i k0_t3 = 1#1), ∀ a x, ((![v607, v609] : Fin 2 → IVec S16 32) a x).toNat < S512x128.size a := fun i k0_t3 v607 v609 k0_hw105 k0_h1 => k0_hw105 k0_h1
def k0_off110 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_318 : BitVec 32 := 13#32
  let v615 : BitVec 32 := Scalar.addi v43 c13_i32_318
  let v616 : Index := Scalar.indexCast v615
  let c16_319 : Index := 16#32
  ![v616.toNat, 16]

def k0_chk106 (i : grid0.Coords) (k0_t3 : Fin k0_t3_loop.trips) (v607 : IVec S16 32) (v614 : IVec S16 32) : Prop :=
  (∀ (k0_h1 : k0_cond1 i k0_t3 = 1#1), ∀ a x, ((![v607, v614] : Fin 2 → IVec S16 32) a x).toNat < S512x128.size a)
theorem k0_idx106_inb : ∀ (i : grid0.Coords) (k0_t3 : Fin k0_t3_loop.trips) (v607 : IVec S16 32) (v614 : IVec S16 32) (k0_hw106 : k0_chk106 i k0_t3 v607 v614), ∀ (k0_h1 : k0_cond1 i k0_t3 = 1#1), ∀ a x, ((![v607, v614] : Fin 2 → IVec S16 32) a x).toNat < S512x128.size a := fun i k0_t3 v607 v614 k0_hw106 k0_h1 => k0_hw106 k0_h1
def k0_off111 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_321 : BitVec 32 := 13#32
  let v620 : BitVec 32 := Scalar.addi v43 c13_i32_321
  let v621 : Index := Scalar.indexCast v620
  let c32_322 : Index := 32#32
  ![v621.toNat, 32]

def k0_chk107 (i : grid0.Coords) (k0_t3 : Fin k0_t3_loop.trips) (v607 : IVec S16 32) (v619 : IVec S16 32) : Prop :=
  (∀ (k0_h1 : k0_cond1 i k0_t3 = 1#1), ∀ a x, ((![v607, v619] : Fin 2 → IVec S16 32) a x).toNat < S512x128.size a)
theorem k0_idx107_inb : ∀ (i : grid0.Coords) (k0_t3 : Fin k0_t3_loop.trips) (v607 : IVec S16 32) (v619 : IVec S16 32) (k0_hw107 : k0_chk107 i k0_t3 v607 v619), ∀ (k0_h1 : k0_cond1 i k0_t3 = 1#1), ∀ a x, ((![v607, v619] : Fin 2 → IVec S16 32) a x).toNat < S512x128.size a := fun i k0_t3 v607 v619 k0_hw107 k0_h1 => k0_hw107 k0_h1
def k0_off112 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_324 : BitVec 32 := 13#32
  let v625 : BitVec 32 := Scalar.addi v43 c13_i32_324
  let v626 : Index := Scalar.indexCast v625
  let c48_325 : Index := 48#32
  ![v626.toNat, 48]

def k0_chk108 (i : grid0.Coords) (k0_t3 : Fin k0_t3_loop.trips) (v607 : IVec S16 32) (v624 : IVec S16 32) : Prop :=
  (∀ (k0_h1 : k0_cond1 i k0_t3 = 1#1), ∀ a x, ((![v607, v624] : Fin 2 → IVec S16 32) a x).toNat < S512x128.size a)
theorem k0_idx108_inb : ∀ (i : grid0.Coords) (k0_t3 : Fin k0_t3_loop.trips) (v607 : IVec S16 32) (v624 : IVec S16 32) (k0_hw108 : k0_chk108 i k0_t3 v607 v624), ∀ (k0_h1 : k0_cond1 i k0_t3 = 1#1), ∀ a x, ((![v607, v624] : Fin 2 → IVec S16 32) a x).toNat < S512x128.size a := fun i k0_t3 v607 v624 k0_hw108 k0_h1 => k0_hw108 k0_h1
def k0_off113 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_327 : BitVec 32 := 13#32
  let v630 : BitVec 32 := Scalar.addi v43 c13_i32_327
  let v631 : Index := Scalar.indexCast v630
  let c64_328 : Index := 64#32
  ![v631.toNat, 64]

def k0_chk109 (i : grid0.Coords) (k0_t3 : Fin k0_t3_loop.trips) (v607 : IVec S16 32) (v629 : IVec S16 32) : Prop :=
  (∀ (k0_h1 : k0_cond1 i k0_t3 = 1#1), ∀ a x, ((![v607, v629] : Fin 2 → IVec S16 32) a x).toNat < S512x128.size a)
theorem k0_idx109_inb : ∀ (i : grid0.Coords) (k0_t3 : Fin k0_t3_loop.trips) (v607 : IVec S16 32) (v629 : IVec S16 32) (k0_hw109 : k0_chk109 i k0_t3 v607 v629), ∀ (k0_h1 : k0_cond1 i k0_t3 = 1#1), ∀ a x, ((![v607, v629] : Fin 2 → IVec S16 32) a x).toNat < S512x128.size a := fun i k0_t3 v607 v629 k0_hw109 k0_h1 => k0_hw109 k0_h1
def k0_off114 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_330 : BitVec 32 := 13#32
  let v635 : BitVec 32 := Scalar.addi v43 c13_i32_330
  let v636 : Index := Scalar.indexCast v635
  let c80_331 : Index := 80#32
  ![v636.toNat, 80]

def k0_chk110 (i : grid0.Coords) (k0_t3 : Fin k0_t3_loop.trips) (v607 : IVec S16 32) (v634 : IVec S16 32) : Prop :=
  (∀ (k0_h1 : k0_cond1 i k0_t3 = 1#1), ∀ a x, ((![v607, v634] : Fin 2 → IVec S16 32) a x).toNat < S512x128.size a)
theorem k0_idx110_inb : ∀ (i : grid0.Coords) (k0_t3 : Fin k0_t3_loop.trips) (v607 : IVec S16 32) (v634 : IVec S16 32) (k0_hw110 : k0_chk110 i k0_t3 v607 v634), ∀ (k0_h1 : k0_cond1 i k0_t3 = 1#1), ∀ a x, ((![v607, v634] : Fin 2 → IVec S16 32) a x).toNat < S512x128.size a := fun i k0_t3 v607 v634 k0_hw110 k0_h1 => k0_hw110 k0_h1
def k0_off115 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_333 : BitVec 32 := 13#32
  let v640 : BitVec 32 := Scalar.addi v43 c13_i32_333
  let v641 : Index := Scalar.indexCast v640
  let c96_334 : Index := 96#32
  ![v641.toNat, 96]

def k0_chk111 (i : grid0.Coords) (k0_t3 : Fin k0_t3_loop.trips) (v607 : IVec S16 32) (v639 : IVec S16 32) : Prop :=
  (∀ (k0_h1 : k0_cond1 i k0_t3 = 1#1), ∀ a x, ((![v607, v639] : Fin 2 → IVec S16 32) a x).toNat < S512x128.size a)
theorem k0_idx111_inb : ∀ (i : grid0.Coords) (k0_t3 : Fin k0_t3_loop.trips) (v607 : IVec S16 32) (v639 : IVec S16 32) (k0_hw111 : k0_chk111 i k0_t3 v607 v639), ∀ (k0_h1 : k0_cond1 i k0_t3 = 1#1), ∀ a x, ((![v607, v639] : Fin 2 → IVec S16 32) a x).toNat < S512x128.size a := fun i k0_t3 v607 v639 k0_hw111 k0_h1 => k0_hw111 k0_h1
def k0_off116 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c13_i32_336 : BitVec 32 := 13#32
  let v645 : BitVec 32 := Scalar.addi v43 c13_i32_336
  let v646 : Index := Scalar.indexCast v645
  let c112_337 : Index := 112#32
  ![v646.toNat, 112]

def k0_chk112 (i : grid0.Coords) (k0_t3 : Fin k0_t3_loop.trips) (v607 : IVec S16 32) (v644 : IVec S16 32) : Prop :=
  (∀ (k0_h1 : k0_cond1 i k0_t3 = 1#1), ∀ a x, ((![v607, v644] : Fin 2 → IVec S16 32) a x).toNat < S512x128.size a)
theorem k0_idx112_inb : ∀ (i : grid0.Coords) (k0_t3 : Fin k0_t3_loop.trips) (v607 : IVec S16 32) (v644 : IVec S16 32) (k0_hw112 : k0_chk112 i k0_t3 v607 v644), ∀ (k0_h1 : k0_cond1 i k0_t3 = 1#1), ∀ a x, ((![v607, v644] : Fin 2 → IVec S16 32) a x).toNat < S512x128.size a := fun i k0_t3 v607 v644 k0_hw112 k0_h1 => k0_hw112 k0_h1
def k0_off117 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32 : BitVec 32 := 14#32
  let v653 : BitVec 32 := Scalar.addi v43 c14_i32
  let v654 : Index := Scalar.indexCast v653
  let c0_339 : Index := 0#32
  ![v654.toNat, 0]

def k0_chk113 (i : grid0.Coords) (k0_t3 : Fin k0_t3_loop.trips) (v650 : IVec S16 32) (v652 : IVec S16 32) : Prop :=
  (∀ (k0_h1 : k0_cond1 i k0_t3 = 1#1), ∀ a x, ((![v650, v652] : Fin 2 → IVec S16 32) a x).toNat < S512x128.size a)
theorem k0_idx113_inb : ∀ (i : grid0.Coords) (k0_t3 : Fin k0_t3_loop.trips) (v650 : IVec S16 32) (v652 : IVec S16 32) (k0_hw113 : k0_chk113 i k0_t3 v650 v652), ∀ (k0_h1 : k0_cond1 i k0_t3 = 1#1), ∀ a x, ((![v650, v652] : Fin 2 → IVec S16 32) a x).toNat < S512x128.size a := fun i k0_t3 v650 v652 k0_hw113 k0_h1 => k0_hw113 k0_h1
def k0_off118 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_341 : BitVec 32 := 14#32
  let v658 : BitVec 32 := Scalar.addi v43 c14_i32_341
  let v659 : Index := Scalar.indexCast v658
  let c16_342 : Index := 16#32
  ![v659.toNat, 16]

def k0_chk114 (i : grid0.Coords) (k0_t3 : Fin k0_t3_loop.trips) (v650 : IVec S16 32) (v657 : IVec S16 32) : Prop :=
  (∀ (k0_h1 : k0_cond1 i k0_t3 = 1#1), ∀ a x, ((![v650, v657] : Fin 2 → IVec S16 32) a x).toNat < S512x128.size a)
theorem k0_idx114_inb : ∀ (i : grid0.Coords) (k0_t3 : Fin k0_t3_loop.trips) (v650 : IVec S16 32) (v657 : IVec S16 32) (k0_hw114 : k0_chk114 i k0_t3 v650 v657), ∀ (k0_h1 : k0_cond1 i k0_t3 = 1#1), ∀ a x, ((![v650, v657] : Fin 2 → IVec S16 32) a x).toNat < S512x128.size a := fun i k0_t3 v650 v657 k0_hw114 k0_h1 => k0_hw114 k0_h1
def k0_off119 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_344 : BitVec 32 := 14#32
  let v663 : BitVec 32 := Scalar.addi v43 c14_i32_344
  let v664 : Index := Scalar.indexCast v663
  let c32_345 : Index := 32#32
  ![v664.toNat, 32]

def k0_chk115 (i : grid0.Coords) (k0_t3 : Fin k0_t3_loop.trips) (v650 : IVec S16 32) (v662 : IVec S16 32) : Prop :=
  (∀ (k0_h1 : k0_cond1 i k0_t3 = 1#1), ∀ a x, ((![v650, v662] : Fin 2 → IVec S16 32) a x).toNat < S512x128.size a)
theorem k0_idx115_inb : ∀ (i : grid0.Coords) (k0_t3 : Fin k0_t3_loop.trips) (v650 : IVec S16 32) (v662 : IVec S16 32) (k0_hw115 : k0_chk115 i k0_t3 v650 v662), ∀ (k0_h1 : k0_cond1 i k0_t3 = 1#1), ∀ a x, ((![v650, v662] : Fin 2 → IVec S16 32) a x).toNat < S512x128.size a := fun i k0_t3 v650 v662 k0_hw115 k0_h1 => k0_hw115 k0_h1
def k0_off120 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_347 : BitVec 32 := 14#32
  let v668 : BitVec 32 := Scalar.addi v43 c14_i32_347
  let v669 : Index := Scalar.indexCast v668
  let c48_348 : Index := 48#32
  ![v669.toNat, 48]

def k0_chk116 (i : grid0.Coords) (k0_t3 : Fin k0_t3_loop.trips) (v650 : IVec S16 32) (v667 : IVec S16 32) : Prop :=
  (∀ (k0_h1 : k0_cond1 i k0_t3 = 1#1), ∀ a x, ((![v650, v667] : Fin 2 → IVec S16 32) a x).toNat < S512x128.size a)
theorem k0_idx116_inb : ∀ (i : grid0.Coords) (k0_t3 : Fin k0_t3_loop.trips) (v650 : IVec S16 32) (v667 : IVec S16 32) (k0_hw116 : k0_chk116 i k0_t3 v650 v667), ∀ (k0_h1 : k0_cond1 i k0_t3 = 1#1), ∀ a x, ((![v650, v667] : Fin 2 → IVec S16 32) a x).toNat < S512x128.size a := fun i k0_t3 v650 v667 k0_hw116 k0_h1 => k0_hw116 k0_h1
def k0_off121 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_350 : BitVec 32 := 14#32
  let v673 : BitVec 32 := Scalar.addi v43 c14_i32_350
  let v674 : Index := Scalar.indexCast v673
  let c64_351 : Index := 64#32
  ![v674.toNat, 64]

def k0_chk117 (i : grid0.Coords) (k0_t3 : Fin k0_t3_loop.trips) (v650 : IVec S16 32) (v672 : IVec S16 32) : Prop :=
  (∀ (k0_h1 : k0_cond1 i k0_t3 = 1#1), ∀ a x, ((![v650, v672] : Fin 2 → IVec S16 32) a x).toNat < S512x128.size a)
theorem k0_idx117_inb : ∀ (i : grid0.Coords) (k0_t3 : Fin k0_t3_loop.trips) (v650 : IVec S16 32) (v672 : IVec S16 32) (k0_hw117 : k0_chk117 i k0_t3 v650 v672), ∀ (k0_h1 : k0_cond1 i k0_t3 = 1#1), ∀ a x, ((![v650, v672] : Fin 2 → IVec S16 32) a x).toNat < S512x128.size a := fun i k0_t3 v650 v672 k0_hw117 k0_h1 => k0_hw117 k0_h1
def k0_off122 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_353 : BitVec 32 := 14#32
  let v678 : BitVec 32 := Scalar.addi v43 c14_i32_353
  let v679 : Index := Scalar.indexCast v678
  let c80_354 : Index := 80#32
  ![v679.toNat, 80]

def k0_chk118 (i : grid0.Coords) (k0_t3 : Fin k0_t3_loop.trips) (v650 : IVec S16 32) (v677 : IVec S16 32) : Prop :=
  (∀ (k0_h1 : k0_cond1 i k0_t3 = 1#1), ∀ a x, ((![v650, v677] : Fin 2 → IVec S16 32) a x).toNat < S512x128.size a)
theorem k0_idx118_inb : ∀ (i : grid0.Coords) (k0_t3 : Fin k0_t3_loop.trips) (v650 : IVec S16 32) (v677 : IVec S16 32) (k0_hw118 : k0_chk118 i k0_t3 v650 v677), ∀ (k0_h1 : k0_cond1 i k0_t3 = 1#1), ∀ a x, ((![v650, v677] : Fin 2 → IVec S16 32) a x).toNat < S512x128.size a := fun i k0_t3 v650 v677 k0_hw118 k0_h1 => k0_hw118 k0_h1
def k0_off123 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_356 : BitVec 32 := 14#32
  let v683 : BitVec 32 := Scalar.addi v43 c14_i32_356
  let v684 : Index := Scalar.indexCast v683
  let c96_357 : Index := 96#32
  ![v684.toNat, 96]

def k0_chk119 (i : grid0.Coords) (k0_t3 : Fin k0_t3_loop.trips) (v650 : IVec S16 32) (v682 : IVec S16 32) : Prop :=
  (∀ (k0_h1 : k0_cond1 i k0_t3 = 1#1), ∀ a x, ((![v650, v682] : Fin 2 → IVec S16 32) a x).toNat < S512x128.size a)
theorem k0_idx119_inb : ∀ (i : grid0.Coords) (k0_t3 : Fin k0_t3_loop.trips) (v650 : IVec S16 32) (v682 : IVec S16 32) (k0_hw119 : k0_chk119 i k0_t3 v650 v682), ∀ (k0_h1 : k0_cond1 i k0_t3 = 1#1), ∀ a x, ((![v650, v682] : Fin 2 → IVec S16 32) a x).toNat < S512x128.size a := fun i k0_t3 v650 v682 k0_hw119 k0_h1 => k0_hw119 k0_h1
def k0_off124 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c14_i32_359 : BitVec 32 := 14#32
  let v688 : BitVec 32 := Scalar.addi v43 c14_i32_359
  let v689 : Index := Scalar.indexCast v688
  let c112_360 : Index := 112#32
  ![v689.toNat, 112]

def k0_chk120 (i : grid0.Coords) (k0_t3 : Fin k0_t3_loop.trips) (v650 : IVec S16 32) (v687 : IVec S16 32) : Prop :=
  (∀ (k0_h1 : k0_cond1 i k0_t3 = 1#1), ∀ a x, ((![v650, v687] : Fin 2 → IVec S16 32) a x).toNat < S512x128.size a)
theorem k0_idx120_inb : ∀ (i : grid0.Coords) (k0_t3 : Fin k0_t3_loop.trips) (v650 : IVec S16 32) (v687 : IVec S16 32) (k0_hw120 : k0_chk120 i k0_t3 v650 v687), ∀ (k0_h1 : k0_cond1 i k0_t3 = 1#1), ∀ a x, ((![v650, v687] : Fin 2 → IVec S16 32) a x).toNat < S512x128.size a := fun i k0_t3 v650 v687 k0_hw120 k0_h1 => k0_hw120 k0_h1
def k0_off125 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32 : BitVec 32 := 15#32
  let v696 : BitVec 32 := Scalar.addi v43 c15_i32
  let v697 : Index := Scalar.indexCast v696
  let c0_362 : Index := 0#32
  ![v697.toNat, 0]

def k0_chk121 (i : grid0.Coords) (k0_t3 : Fin k0_t3_loop.trips) (v693 : IVec S16 32) (v695 : IVec S16 32) : Prop :=
  (∀ (k0_h1 : k0_cond1 i k0_t3 = 1#1), ∀ a x, ((![v693, v695] : Fin 2 → IVec S16 32) a x).toNat < S512x128.size a)
theorem k0_idx121_inb : ∀ (i : grid0.Coords) (k0_t3 : Fin k0_t3_loop.trips) (v693 : IVec S16 32) (v695 : IVec S16 32) (k0_hw121 : k0_chk121 i k0_t3 v693 v695), ∀ (k0_h1 : k0_cond1 i k0_t3 = 1#1), ∀ a x, ((![v693, v695] : Fin 2 → IVec S16 32) a x).toNat < S512x128.size a := fun i k0_t3 v693 v695 k0_hw121 k0_h1 => k0_hw121 k0_h1
def k0_off126 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_364 : BitVec 32 := 15#32
  let v701 : BitVec 32 := Scalar.addi v43 c15_i32_364
  let v702 : Index := Scalar.indexCast v701
  let c16_365 : Index := 16#32
  ![v702.toNat, 16]

def k0_chk122 (i : grid0.Coords) (k0_t3 : Fin k0_t3_loop.trips) (v693 : IVec S16 32) (v700 : IVec S16 32) : Prop :=
  (∀ (k0_h1 : k0_cond1 i k0_t3 = 1#1), ∀ a x, ((![v693, v700] : Fin 2 → IVec S16 32) a x).toNat < S512x128.size a)
theorem k0_idx122_inb : ∀ (i : grid0.Coords) (k0_t3 : Fin k0_t3_loop.trips) (v693 : IVec S16 32) (v700 : IVec S16 32) (k0_hw122 : k0_chk122 i k0_t3 v693 v700), ∀ (k0_h1 : k0_cond1 i k0_t3 = 1#1), ∀ a x, ((![v693, v700] : Fin 2 → IVec S16 32) a x).toNat < S512x128.size a := fun i k0_t3 v693 v700 k0_hw122 k0_h1 => k0_hw122 k0_h1
def k0_off127 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_367 : BitVec 32 := 15#32
  let v706 : BitVec 32 := Scalar.addi v43 c15_i32_367
  let v707 : Index := Scalar.indexCast v706
  let c32_368 : Index := 32#32
  ![v707.toNat, 32]

def k0_chk123 (i : grid0.Coords) (k0_t3 : Fin k0_t3_loop.trips) (v693 : IVec S16 32) (v705 : IVec S16 32) : Prop :=
  (∀ (k0_h1 : k0_cond1 i k0_t3 = 1#1), ∀ a x, ((![v693, v705] : Fin 2 → IVec S16 32) a x).toNat < S512x128.size a)
theorem k0_idx123_inb : ∀ (i : grid0.Coords) (k0_t3 : Fin k0_t3_loop.trips) (v693 : IVec S16 32) (v705 : IVec S16 32) (k0_hw123 : k0_chk123 i k0_t3 v693 v705), ∀ (k0_h1 : k0_cond1 i k0_t3 = 1#1), ∀ a x, ((![v693, v705] : Fin 2 → IVec S16 32) a x).toNat < S512x128.size a := fun i k0_t3 v693 v705 k0_hw123 k0_h1 => k0_hw123 k0_h1
def k0_off128 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_370 : BitVec 32 := 15#32
  let v711 : BitVec 32 := Scalar.addi v43 c15_i32_370
  let v712 : Index := Scalar.indexCast v711
  let c48_371 : Index := 48#32
  ![v712.toNat, 48]

def k0_chk124 (i : grid0.Coords) (k0_t3 : Fin k0_t3_loop.trips) (v693 : IVec S16 32) (v710 : IVec S16 32) : Prop :=
  (∀ (k0_h1 : k0_cond1 i k0_t3 = 1#1), ∀ a x, ((![v693, v710] : Fin 2 → IVec S16 32) a x).toNat < S512x128.size a)
theorem k0_idx124_inb : ∀ (i : grid0.Coords) (k0_t3 : Fin k0_t3_loop.trips) (v693 : IVec S16 32) (v710 : IVec S16 32) (k0_hw124 : k0_chk124 i k0_t3 v693 v710), ∀ (k0_h1 : k0_cond1 i k0_t3 = 1#1), ∀ a x, ((![v693, v710] : Fin 2 → IVec S16 32) a x).toNat < S512x128.size a := fun i k0_t3 v693 v710 k0_hw124 k0_h1 => k0_hw124 k0_h1
def k0_off129 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_373 : BitVec 32 := 15#32
  let v716 : BitVec 32 := Scalar.addi v43 c15_i32_373
  let v717 : Index := Scalar.indexCast v716
  let c64_374 : Index := 64#32
  ![v717.toNat, 64]

def k0_chk125 (i : grid0.Coords) (k0_t3 : Fin k0_t3_loop.trips) (v693 : IVec S16 32) (v715 : IVec S16 32) : Prop :=
  (∀ (k0_h1 : k0_cond1 i k0_t3 = 1#1), ∀ a x, ((![v693, v715] : Fin 2 → IVec S16 32) a x).toNat < S512x128.size a)
theorem k0_idx125_inb : ∀ (i : grid0.Coords) (k0_t3 : Fin k0_t3_loop.trips) (v693 : IVec S16 32) (v715 : IVec S16 32) (k0_hw125 : k0_chk125 i k0_t3 v693 v715), ∀ (k0_h1 : k0_cond1 i k0_t3 = 1#1), ∀ a x, ((![v693, v715] : Fin 2 → IVec S16 32) a x).toNat < S512x128.size a := fun i k0_t3 v693 v715 k0_hw125 k0_h1 => k0_hw125 k0_h1
def k0_off130 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_376 : BitVec 32 := 15#32
  let v721 : BitVec 32 := Scalar.addi v43 c15_i32_376
  let v722 : Index := Scalar.indexCast v721
  let c80_377 : Index := 80#32
  ![v722.toNat, 80]

def k0_chk126 (i : grid0.Coords) (k0_t3 : Fin k0_t3_loop.trips) (v693 : IVec S16 32) (v720 : IVec S16 32) : Prop :=
  (∀ (k0_h1 : k0_cond1 i k0_t3 = 1#1), ∀ a x, ((![v693, v720] : Fin 2 → IVec S16 32) a x).toNat < S512x128.size a)
theorem k0_idx126_inb : ∀ (i : grid0.Coords) (k0_t3 : Fin k0_t3_loop.trips) (v693 : IVec S16 32) (v720 : IVec S16 32) (k0_hw126 : k0_chk126 i k0_t3 v693 v720), ∀ (k0_h1 : k0_cond1 i k0_t3 = 1#1), ∀ a x, ((![v693, v720] : Fin 2 → IVec S16 32) a x).toNat < S512x128.size a := fun i k0_t3 v693 v720 k0_hw126 k0_h1 => k0_hw126 k0_h1
def k0_off131 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_379 : BitVec 32 := 15#32
  let v726 : BitVec 32 := Scalar.addi v43 c15_i32_379
  let v727 : Index := Scalar.indexCast v726
  let c96_380 : Index := 96#32
  ![v727.toNat, 96]

def k0_chk127 (i : grid0.Coords) (k0_t3 : Fin k0_t3_loop.trips) (v693 : IVec S16 32) (v725 : IVec S16 32) : Prop :=
  (∀ (k0_h1 : k0_cond1 i k0_t3 = 1#1), ∀ a x, ((![v693, v725] : Fin 2 → IVec S16 32) a x).toNat < S512x128.size a)
theorem k0_idx127_inb : ∀ (i : grid0.Coords) (k0_t3 : Fin k0_t3_loop.trips) (v693 : IVec S16 32) (v725 : IVec S16 32) (k0_hw127 : k0_chk127 i k0_t3 v693 v725), ∀ (k0_h1 : k0_cond1 i k0_t3 = 1#1), ∀ a x, ((![v693, v725] : Fin 2 → IVec S16 32) a x).toNat < S512x128.size a := fun i k0_t3 v693 v725 k0_hw127 k0_h1 => k0_hw127 k0_h1
def k0_off132 (k0_t4 : Fin k0_t4_loop.trips) : Fin 2 → Nat :=
  let c0_i32_24 : BitVec 32 := 0#32
  let c0_i32_20 : BitVec 32 := 0#32
  let c1_i32_21 : BitVec 32 := 1#32
  let arg9 : BitVec 32 := Scf.iv c0_i32_20 c1_i32_21 k0_t4
  let c16_i32_23 : BitVec 32 := 16#32
  let v42 : BitVec 32 := Scalar.muli arg9 c16_i32_23
  let v43 : BitVec 32 := Scalar.addi c0_i32_24 v42
  let c15_i32_382 : BitVec 32 := 15#32
  let v731 : BitVec 32 := Scalar.addi v43 c15_i32_382
  let v732 : Index := Scalar.indexCast v731
  let c112_383 : Index := 112#32
  ![v732.toNat, 112]

def k0_chk128 (i : grid0.Coords) (k0_t3 : Fin k0_t3_loop.trips) (v693 : IVec S16 32) (v730 : IVec S16 32) : Prop :=
  (∀ (k0_h1 : k0_cond1 i k0_t3 = 1#1), ∀ a x, ((![v693, v730] : Fin 2 → IVec S16 32) a x).toNat < S512x128.size a)
theorem k0_idx128_inb : ∀ (i : grid0.Coords) (k0_t3 : Fin k0_t3_loop.trips) (v693 : IVec S16 32) (v730 : IVec S16 32) (k0_hw128 : k0_chk128 i k0_t3 v693 v730), ∀ (k0_h1 : k0_cond1 i k0_t3 = 1#1), ∀ a x, ((![v693, v730] : Fin 2 → IVec S16 32) a x).toNat < S512x128.size a := fun i k0_t3 v693 v730 k0_hw128 k0_h1 => k0_hw128 k0_h1
def k0_off133 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_16_r2 : BitVec 32 := 0#32
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c128_i32 : BitVec 32 := 128#32
  let v29 : BitVec 32 := Scalar.muli v28 c128_i32
  ![v11.toNat, 0, v29.toNat]
abbrev grid1 : Pipeline.Grid := .none

abbrev stage1_0 : Fin 1 → Memref sig .tc .vmem S16x512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S10x256 : Shape := ⟨2, ![10, 256]⟩
abbrev S10 : Shape := ⟨1, ![10]⟩
abbrev S_ : Shape := ⟨0, ![]⟩
abbrev S512x256 : Shape := ⟨2, ![512, 256]⟩
abbrev S50000x1 : Shape := ⟨2, ![50000, 1]⟩
abbrev S256x10 : Shape := ⟨2, ![256, 10]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 28
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S10x256, .f32⟩
  | .hbm, ⟨3, _⟩ => ⟨S10, .f32⟩
  | .hbm, ⟨4, _⟩ => ⟨S_, .f32⟩
  | .hbm, ⟨5, _⟩ => ⟨S512x256, .f32⟩
  | .hbm, ⟨6, _⟩ => ⟨S50000x1, .i32⟩
  | .hbm, ⟨7, _⟩ => ⟨S512x256, .f32⟩
  | .hbm, ⟨8, _⟩ => ⟨S256x10, .f32⟩
  | .hbm, ⟨9, _⟩ => ⟨S512x10, .f32⟩
  | .hbm, ⟨10, _⟩ => ⟨S1x10, .f32⟩
  | .hbm, ⟨11, _⟩ => ⟨S512x10, .f32⟩
  | .hbm, ⟨12, _⟩ => ⟨S512x10, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512x1, .f32⟩
  | .hbm, ⟨19, _⟩ => ⟨S512x10, .f32⟩
  | .hbm, ⟨20, _⟩ => ⟨S512x10, .f32⟩
  | .hbm, ⟨21, _⟩ => ⟨S512x10, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S512x1, .f32⟩
  | .hbm, ⟨26, _⟩ => ⟨S512x10, .f32⟩
  | .hbm, ⟨27, _⟩ => ⟨S512x10, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_call0_cst_0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_cst_1 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Proof.Pre.lean ====
/-
  The two preconditions read back: every segment number is below 512, and (for the claim on values) no float argument is infinite.
-/
module

public import proofs.«01_k».proof.Proof.Gen.Pre_in_range
public import proofs.«01_k».proof.Proof.Gen.Pre_in_range_and_finite
public import Idealize.ShloMosaic.Lib.ReduceAll
public import Idealize.ShloMosaic.PureOps.Ideal

@[expose] public section

noncomputable section

namespace Cert.PreRead

open Idealize.ShloMosaic

/-- A word at least 0 and below 512 as a signed number is below 512 as an unsigned one. -/
theorem word_lt (v : BitVec 32) (e : IntOp.andi (IntOp.cmpi .sge v 0#32) (IntOp.cmpi .slt v 512#32) = 1#1) : v.toNat < 512 := by
  obtain ⟨h1, h2⟩ := IntOp.andi_eq_one.1 e
  rw [IntOp.cmpi_sge] at h1
  rw [IntOp.cmpi_slt] at h2
  simp only [BitVec.toInt_eq_toNat_cond, BitVec.toNat_ofNat, Nat.reducePow, Nat.reduceMod] at h1 h2
  omega

theorem seg_lt {F : FTy → Type} [FloatOps F] (x : FVec F Pre_in_range.S50000x256 .f32) (I : IVec Pre_in_range.S50000 32)
    (w : FVec F Pre_in_range.S10x256 .f32) (b : FVec F Pre_in_range.S10 .f32)
    (h : Pre_in_range.fn (F := F) x I w b = fun _ => 1#1) (j : Pre_in_range.S50000.Idx) : (I j).toNat < 512 := by
  have : Subsingleton Pre_in_range.S_.Idx := ⟨fun a b => funext fun k => k.elim0⟩
  have e := Host.reduce_andi_all _ _ _ _ (fun k => k.elim0) (congrFun h (fun k => k.elim0)) j
  exact word_lt _ e

/-- A number whose absolute value is below some extended real is finite. -/
theorem finite_of (v : EReal) (c : EReal) (e : Ideal.cmp .olt (max v (-v)) c = 1#1) : v ≠ ⊤ ∧ v ≠ ⊥ := by
  have e' : decide (max v (-v) < c) = true := by
    change BitVec.ofBool (decide (max v (-v) < c)) = 1#1 at e
    cases hd : decide (max v (-v) < c)
    · rw [hd] at e; exact absurd e (by decide)
    · rfl
  obtain ⟨h1, h2⟩ := max_lt_iff.1 (of_decide_eq_true e')
  refine ⟨ne_top_of_lt h1, fun h => ?_⟩
  subst h
  exact not_top_lt h2

section
open Pre_in_range_and_finite

theorem all_of (x : FVec Ideal S50000x256 .f32) (I : IVec S50000 32) (w : FVec Ideal S10x256 .f32) (b : FVec Ideal S10 .f32)
    (h : fn (F := Ideal) x I w b = fun _ => 1#1) :
    (∀ j, (I j).toNat < 512) ∧ (∀ j, x j ≠ ⊤ ∧ x j ≠ ⊥) ∧ (∀ j, w j ≠ ⊤ ∧ w j ≠ ⊥) ∧ ∀ j, b j ≠ ⊤ ∧ b j ≠ ⊥ := by
  have : Subsingleton S_.Idx := ⟨fun a b => funext fun k => k.elim0⟩
  have e := congrFun h (fun k => k.elim0)
  obtain ⟨e, eb⟩ := IntOp.andi_eq_one.1 e
  obtain ⟨e, ew⟩ := IntOp.andi_eq_one.1 e
  obtain ⟨ei, ex⟩ := IntOp.andi_eq_one.1 e
  exact ⟨fun j => word_lt _ (Host.reduce_andi_all _ _ _ _ _ ei j), fun j => finite_of _ _ (Host.reduce_andi_all _ _ _ _ _ ex j),
    fun j => finite_of _ _ (Host.reduce_andi_all _ _ _ _ _ ew j), fun j => finite_of _ _ (Host.reduce_andi_all _ _ _ _ _ eb j)⟩

end

end Cert.PreRead

end
-- ==== Proof.Bits.Frame.lean ====
/-
  The program's frame: it runs, its arguments end unchanged, and every semaphore is at zero.
-/
module

public import proofs.«01_k».proof.Proof.Bits.Main
public import proofs.«01_k».proof.Proof.Pre

@[expose] public section

noncomputable section

namespace Cert.Kernel.Prf

open Cert.Kernel Cert.Kernel.Gen
open Idealize.ShloMosaic Idealize.SL.Sem
open Idealize.ShloMosaic.ValueIdx

variable {F : FTy → Type} [FloatOps F]

/-- The precondition on the segment numbers is what the proof asks of the launch memory. -/
theorem ok_of_pre (m : (ℓ : Loc nD τ sig) → Buf (Elt F) ℓ)
    (h : ∀ c : Dev nD, Cert.Pre_in_range.fn (F := F) (m (xLoc c)) (m (iLoc c)) (m (wLoc c)) (m (bLoc c)) = fun _ => 1#1) : PreOK m :=
  fun d n => PreRead.seg_lt _ _ _ _ (h d) (ix1 (⟨n % 50000, Nat.mod_lt _ (by omega)⟩ : Fin 50000))

/-- The run with the arguments and the counters only. -/
theorem frame_of [∀ e, Nonempty (Elt F e)] (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r =>
      (∀ c : Dev nD, r.2.mem (xLoc c) = m (xLoc c) ∧ r.2.mem (iLoc c) = m (iLoc c) ∧ r.2.mem (wLoc c) = m (wLoc c)
        ∧ r.2.mem (bLoc c) = m (bLoc c)) ∧ r.2.sem = fun _ => 0) :=
  (θ_run _ _ _).mono (fun _ h => ⟨fun c => ⟨(h.1 c).1, (h.1 c).2.1, (h.1 c).2.2.1, (h.1 c).2.2.2.1⟩, h.2⟩) (run_main m ρ hpre)

end Cert.Kernel.Prf

end
-- ==== Proof.Ideal.Units.lean ====
/-
  The 128 scatter-adds of one trip of the kernel's innermost loop, as one program.

  A trip of the loop over groups of sixteen rows loads the sixteen segment numbers of the group, then for each of the sixteen rows and
  each of the eight blocks of sixteen columns adds the block into the accumulator's row that the segment number names. The printed
  program has these 128 steps one after the other, each a little program of its own: `unit` is that little program at a symbolic row and
  block, `units` the steps in order, and `t4_body_eq` the equation that makes the printed text this program.
-/
module

public import proofs.«01_k».proof.Proof.Gen.KernelIdeal.Skeleton

@[expose] public section

noncomputable section

namespace Cert.KernelIdeal.Prf

open Idealize.ShloMosaic Idealize.SL.Sem
open Cert.KernelIdeal Cert.KernelIdeal.Gen

variable {F : FTy → Type} [FloatOps F]

/-- The lane numbers 0 … 15. -/
abbrev lanes : IVec S16 32 := iota .scVector S16 32 [0] iota_S16_d0_w32_scVector

/-- Row `j` of the group of sixteen rows that trip `t4` handles, as the kernel computes it. -/
def uoff (j kk : Nat) (t4 : Fin k0_t4_loop.trips) : Fin 2 → Nat :=
  ![(Scalar.indexCast (Scalar.addi (Scalar.addi 0#32 (Scalar.muli (Scf.iv 0#32 1#32 t4) 16#32)) (BitVec.ofNat 32 j))).toNat, 16 * kk]

/-- The segment number of row `j` of the group, in every lane. -/
def useg (j : Nat) (hj : S16.Slices ![j] S1) (v45 : Vec F S16 .i32) : IVec S16 32 :=
  broadcast S16 (extractAt ![0] (extractStridedSlice S1 ![j] v45 hj) inpos_S1_p0)

/-- The columns of block `kk`. -/
def ucol (kk : Nat) : IVec S16 32 := addi lanes (broadcast S16 (BitVec.ofNat 32 (16 * kk)))

theorem slicesJ {j : Nat} (hj : j < 16) : S16.Slices ![j] S1 :=
  ⟨rfl, fun a => by
    match a with
    | 0 => show j + 1 ≤ 16; omega⟩

theorem uoff_eq {j kk : Nat} (hj : j < 16) (t4 : Fin k0_t4_loop.trips) : uoff j kk t4 = ![16 * t4.val + j, 16 * kk] := by
  have h : ∀ (j : Fin 16) (t4 : Fin k0_t4_loop.trips), uoff j 0 t4 0 = 16 * t4.val + j := by decide +kernel
  have := h ⟨j, hj⟩ t4
  unfold uoff at *
  simp only [Matrix.cons_val_zero] at this
  rw [this]

theorem uoff_inb {j kk : Nat} (hj : j < 16) (hk : kk < 8) (t4 : Fin k0_t4_loop.trips) :
    ∀ a, uoff j kk t4 a + S1x16.size a ≤ S80x128.size a := by
  rw [uoff_eq hj]
  have := t4.isLt
  have h5 : k0_t4_loop.trips = 5 := by decide
  intro a
  match a with
  | 0 => show 16 * t4.val + j + 1 ≤ 80; omega
  | 1 => show 16 * kk + 16 ≤ 128; omega

/-- One step: row `j`'s block `kk` added into the accumulator's row that the segment number names. -/
def unit (i : grid0.Coords) (arg5 : Memref sig .scVector .vmem S80x128 .f32) (arg7 : Memref sig .scVector .vmem S512x128 .f32)
    (t3 : Fin k0_t3_loop.trips) (h1 : k0_cond1 i t3 = 1#1) (t4 : Fin k0_t4_loop.trips) (v45 : Vec F S16 .i32) (j kk : Nat) (hj : j < 16)
    (hk : kk < 8) : Prog (TpuEff nD τ sig (Elt F) Λ₀ (.scVector ((i 0).castLE hcore0) ((i 1).castLE hsub0))) PUnit := do
  have hw : k0_chk1 i t3 (useg j (slicesJ hj) v45) (ucol kk) :=
    (← Prog.lift (TpuEff.assume (k0_chk1 i t3 (useg j (slicesJ hj) v45) (ucol kk)) (k0_chk1.dec i t3 (useg j (slicesJ hj) v45) (ucol kk)))).down
  let ld : Vec F S1x16 .f32 ← Prog.lift (.load arg5 (Rect.unit (s := S80x128) (uoff j kk t4) S1x16.size (uoff_inb hj hk t4)).toLoadRect
    (View.loadsAt_vmem h_S1x16))
  SparseCore.vectorStoreIdx arg7 ![useg j (slicesJ hj) v45, ucol kk] (shapeCast S16 ld shapeCasts_S1x16_S16) (fun _ => 1#1) true
    (hw h1) (View.stores_vmem_bits_univ h_S512x128 rfl)

/-- The steps number `n`, `n + 1`, … in order, `m` of them: step `n` is row `n / 8`'s block `n % 8`. -/
def units (i : grid0.Coords) (arg5 : Memref sig .scVector .vmem S80x128 .f32) (arg7 : Memref sig .scVector .vmem S512x128 .f32)
    (t3 : Fin k0_t3_loop.trips) (h1 : k0_cond1 i t3 = 1#1) (t4 : Fin k0_t4_loop.trips) (v45 : Vec F S16 .i32) :
    (m n : Nat) → n + m = 128 → Prog (TpuEff nD τ sig (Elt F) Λ₀ (.scVector ((i 0).castLE hcore0) ((i 1).castLE hsub0))) PUnit
  | 0, _, _ => pure ⟨⟩
  | m + 1, n, h => do
    unit i arg5 arg7 t3 h1 t4 v45 (n / 8) (n % 8) (by omega) (by omega)
    units i arg5 arg7 t3 h1 t4 v45 m (n + 1) (by omega)

set_option maxRecDepth 1000000 in
set_option maxHeartbeats 4000000 in
/-- A trip of the innermost loop is the load of sixteen segment numbers and the 128 steps. -/
theorem t4_body_eq (i : grid0.Coords) (arg2 : Memref sig .scVector .hbm S50000x256 .f32) (harg2 : arg2.IsWhole)
    (arg3 : Memref sig .scVector .hbm S50000 .i32) (harg3 : arg3.IsWhole) (arg4 : Memref sig .scVector .hbm S16x512x256 .f32) (harg4 : arg4.IsWhole)
    (arg5 : Memref sig .scVector .vmem S80x128 .f32) (harg5 : arg5.IsWhole) (arg6 : Memref sig .scVector .vmem S80 .i32) (harg6 : arg6.IsWhole)
    (arg7 : Memref sig .scVector .vmem S512x128 .f32) (harg7 : arg7.IsWhole) (v42_r0 v42_r1 v33_r2 : DmaSems sig S_)
    (t3 : Fin k0_t3_loop.trips) (h1 : k0_cond1 i t3 = 1#1) (t4 : Fin k0_t4_loop.trips) :
    k0_t4_body (F := F) i arg2 harg2 arg3 harg3 arg4 harg4 arg5 harg5 arg6 harg6 arg7 harg7 v42_r0 v42_r1 v33_r2 lanes t3 h1 t4 ()
      = (do
        let v45 : Vec F S16 .i32 ← Prog.lift (.load arg6 (Rect.unit (s := S80) (k0_off4 t4) S16.size (k0_off4_inb i t3 t4 h1)).toLoadRect
          (View.loadsAt_vmem h_S16))
        units i arg5 arg7 t3 h1 t4 v45 128 0 rfl) := by
  rfl

end Cert.KernelIdeal.Prf
-- ==== Proof.Ideal.Vals.lean ====
/-
  What the tile kernel's steps leave in the accumulator, element by element.

  `addRow` adds one row of 128 columns into the accumulator's row of its segment number, `accRows` a number of rows one after the other,
  `accTile` the chunks of eighty rows that tile `r` of a column group handles. `midRow` is an accumulator whose first `kk` blocks of
  sixteen columns already have the row; `storeIdx_unit` says that one scatter-add takes it from `kk` blocks to `kk + 1`.
-/
module

public import proofs.«01_k».proof.Proof.Ideal.Units
public import Idealize.ShloMosaic.Lib.ValueLayout

@[expose] public section

noncomputable section

namespace Cert.KernelIdeal.Prf

open Idealize.ShloMosaic Idealize.SL.Sem
open Idealize.ShloMosaic.ValueIdx
open Cert.KernelIdeal Cert.KernelIdeal.Gen

variable {F : FTy → Type} [FloatOps F]

/-- The accumulator after a row `x` of segment number `s` is added. -/
def addRow (s : Nat) (x : Nat → Elt F .f32) (A : Vec F S512x128 .f32) : Vec F S512x128 .f32 :=
  fun p => if (p 0).val = s then Elt.idxAdd .f32 (A p) (x (p 1).val) else A p

/-- The accumulator after the rows number 0 … `n - 1`. -/
def accRows (sg : Nat → BitVec 32) (x : Nat → Nat → Elt F .f32) (A : Vec F S512x128 .f32) : Nat → Vec F S512x128 .f32
  | 0 => A
  | n + 1 => addRow (sg n).toNat (x n) (accRows sg x A n)

/-- The accumulator with row `n` added in its first `kk` blocks of sixteen columns. -/
def midRow (s : Nat) (x : Nat → Elt F .f32) (A : Vec F S512x128 .f32) (kk : Nat) : Vec F S512x128 .f32 :=
  fun p => if (p 1).val < 16 * kk then addRow s x A p else A p

theorem midRow_zero (s : Nat) (x : Nat → Elt F .f32) (A : Vec F S512x128 .f32) : midRow s x A 0 = A :=
  funext fun p => if_neg (by omega)

theorem midRow_eight (s : Nat) (x : Nat → Elt F .f32) (A : Vec F S512x128 .f32) : midRow s x A 8 = addRow s x A :=
  funext fun p => if_pos (p 1).isLt

/-- The zero that the accumulator starts from. -/
def zacc : Vec F S512x128 .f32 := fun _ => Scalar.ofBits .f32 0x00000000#32

/-- The accumulator of tile `r` after `k` turns of the loop over chunks: chunk `r + 16 k` is handled where there is one. -/
def accTile (sg : Nat → BitVec 32) (x : Nat → Nat → Elt F .f32) (r : Nat) : Nat → Vec F S512x128 .f32
  | 0 => zacc
  | k + 1 => if r + 16 * k < 625 then
      accRows (fun n => sg (80 * (r + 16 * k) + n)) (fun n => x (80 * (r + 16 * k) + n)) (accTile sg x r k) 80
    else accTile sg x r k

/-- A scatter-add of sixteen lanes into one row at sixteen consecutive columns. -/
theorem storeIdx_row (f : Vec F S512x128 .f32) (idxs : Fin 2 → IVec S16 32) (v : Vec F S16 .f32)
    (h : ∀ a x, (idxs a x).toNat < S512x128.size a) (s c : Nat) (w : Nat → Elt F .f32)
    (h0 : ∀ x, (idxs 0 x).toNat = s) (h1 : ∀ x : S16.Idx, (idxs 1 x).toNat = c + (x 0).val)
    (hv : ∀ x : S16.Idx, v x = w (c + (x 0).val)) :
    storeIdx f idxs v (fun _ => 1#1) true h
      = fun p => if (p 0).val = s ∧ c ≤ (p 1).val ∧ (p 1).val < c + 16 then Elt.idxAdd .f32 (f p) (w (p 1).val) else f p := by
  let step : Vec F S512x128 .f32 → Fin ((![16] : Fin 1 → Nat) 0) → Vec F S512x128 .f32 := fun g k => fun j : S512x128.Idx =>
    if (∀ a, (j a).val = (idxAt idxs h (Shape.ofLane (d := ![16]) k) a).val) then
      Elt.idxAdd .f32 (g (idxAt idxs h (Shape.ofLane (d := ![16]) k))) (v (Shape.ofLane (d := ![16]) k)) else g j
  have hstep : ∀ g k j, step g k j = if (∀ a, (j a).val = (idxAt idxs h (Shape.ofLane (d := ![16]) k) a).val) then
      Elt.idxAdd .f32 (g (idxAt idxs h (Shape.ofLane (d := ![16]) k))) (v (Shape.ofLane (d := ![16]) k)) else g j := fun _ _ _ => rfl
  have hfold : storeIdx f idxs v (fun _ => 1#1) true h = (List.finRange ((![16] : Fin 1 → Nat) 0)).foldl step f := by
    unfold storeIdx
    congr 1
    funext g k
    simp only [if_true]
    rfl
  clear_value step
  have key : ∀ (l : List (Fin ((![16] : Fin 1 → Nat) 0))), l.Nodup → ∀ f : Vec F S512x128 .f32, ∀ p : S512x128.Idx,
      l.foldl step f p
        = if (p 0).val = s ∧ ∃ k ∈ l, (p 1).val = c + k.val then Elt.idxAdd .f32 (f p) (w (p 1).val) else f p := by
    intro l
    induction l with
    | nil =>
      intro _ f p
      rw [if_neg (by rintro ⟨-, k, hk, -⟩; exact absurd hk List.not_mem_nil)]
      rfl
    | cons k l ih =>
      intro hn f p
      rw [List.foldl_cons, ih (List.nodup_cons.mp hn).2]
      have hk : k ∉ l := (List.nodup_cons.mp hn).1
      have hiff : (∀ a, (p a).val = (idxAt idxs h (Shape.ofLane (d := ![16]) k) a).val) ↔ (p 0).val = s ∧ (p 1).val = c + k.val := by
        constructor
        · intro ha
          exact ⟨(ha 0).trans (h0 _), (ha 1).trans (h1 (Shape.ofLane (d := ![16]) k))⟩
        · rintro ⟨e0, e1⟩ a
          match a with
          | 0 => exact e0.trans (h0 _).symm
          | 1 => exact e1.trans (h1 (Shape.ofLane (d := ![16]) k)).symm
      by_cases hp : (p 0).val = s ∧ (p 1).val = c + k.val
      · have hnot : ¬ ((p 0).val = s ∧ ∃ k' ∈ l, (p 1).val = c + k'.val) := by
          rintro ⟨-, k', hk', e⟩
          have : k' = k := Fin.ext (by omega)
          exact hk (this ▸ hk')
        rw [if_neg hnot, hstep, if_pos (hiff.mpr hp), if_pos ⟨hp.1, k, List.mem_cons_self, hp.2⟩]
        have hpe : idxAt idxs h (Shape.ofLane (d := ![16]) k) = p := funext fun a => Fin.ext (hiff.mpr hp a).symm
        rw [hpe, hv]
        exact congrArg (fun n => Elt.idxAdd .f32 (f p) (w n)) hp.2.symm
      · rw [hstep, if_neg (fun e => hp (hiff.mp e))]
        by_cases hq : (p 0).val = s ∧ ∃ k' ∈ l, (p 1).val = c + k'.val
        · rw [if_pos hq, if_pos ⟨hq.1, hq.2.imp fun k' e => ⟨List.mem_cons_of_mem _ e.1, e.2⟩⟩]
        · rw [if_neg hq, if_neg]
          rintro ⟨e0, k', hk', e1⟩
          rcases List.mem_cons.mp hk' with rfl | hk'
          · exact hp ⟨e0, e1⟩
          · exact hq ⟨e0, k', hk', e1⟩
  funext p
  rw [hfold, key _ (List.nodup_finRange _) f p]
  have : (∃ k ∈ List.finRange ((![16] : Fin 1 → Nat) 0), (p 1).val = c + k.val) ↔ c ≤ (p 1).val ∧ (p 1).val < c + 16 := by
    constructor
    · rintro ⟨k, -, e⟩; have : k.val < 16 := k.isLt; omega
    · rintro ⟨a, b⟩; exact ⟨⟨(p 1).val - c, show _ < 16 by omega⟩, List.mem_finRange _, by simp only; omega⟩
  simp only [this]

/-- Lane `l` of block `kk` is column `16 kk + l`. -/
theorem ucol_toNat {kk : Nat} (hk : kk < 8) (x : S16.Idx) : (ucol kk x).toNat = 16 * kk + (x 0).val := by
  have h : ∀ (kk : Fin 8) (l : Fin 16), (BitVec.ofNat 32 (0 * 16 + l.val) + BitVec.ofNat 32 (16 * kk.val)).toNat = 16 * kk.val + l.val := by
    decide +kernel
  exact h ⟨kk, hk⟩ (x 0)

/-- One step: the scatter-add of block `kk` takes the accumulator from `kk` blocks of the row to `kk + 1`. -/
theorem storeIdx_unit (A : Vec F S512x128 .f32) (sgw : IVec S16 32) (s : Nat) (hs : ∀ y, (sgw y).toNat = s) (x : Nat → Elt F .f32) {kk : Nat}
    (hk : kk < 8) (v : Vec F S16 .f32) (hv : ∀ y : S16.Idx, v y = x (16 * kk + (y 0).val))
    (h : ∀ a y, ((![sgw, ucol kk] : Fin 2 → IVec S16 32) a y).toNat < S512x128.size a) :
    storeIdx (midRow s x A kk) ![sgw, ucol kk] v (fun _ => 1#1) true h = midRow s x A (kk + 1) := by
  rw [storeIdx_row (midRow s x A kk) ![sgw, ucol kk] v h s (16 * kk) x hs (fun y => ucol_toNat hk y) hv]
  funext p
  unfold midRow addRow
  by_cases h0 : (p 0).val = s
  · by_cases h1 : (p 1).val < 16 * kk
    · rw [if_neg (by omega), if_pos h1, if_pos h0, if_pos (by omega)]
    · by_cases h2 : (p 1).val < 16 * kk + 16
      · rw [if_pos ⟨h0, by omega, h2⟩, if_neg h1, if_pos (by omega), if_pos h0]
      · rw [if_neg (by omega), if_neg h1, if_neg (by omega)]
  · rw [if_neg (by omega)]
    split <;> split <;> first | rfl | omega | (rw [if_neg h0])

/-- The segment number that a step scatters to, from what the segment numbers' buffer holds. -/
theorem useg_toNat (sg : Nat → BitVec 32) (n0 j : Nat) (hj : j < 16) (v45 : Vec F S16 .i32) (hv : ∀ y : S16.Idx, v45 y = sg (n0 + (y 0).val))
    (y : S16.Idx) : (useg j (slicesJ hj) v45 y).toNat = (sg (n0 + j)).toNat := by
  show (v45 _).toNat = _
  rw [hv]
  rfl

end Cert.KernelIdeal.Prf
-- ==== Proof.Ideal.Base.lean ====
/-
  The setting of the proof: the program as the launch theorem sees it, the resource algebra, the names of the arrays.

  The algebra has three parts side by side: the rounds of the SparseCore call's handshakes, the rounds of the TensorCore region's
  staging copies, and the counters of the tiles' own copies.
-/
module

public import proofs.«01_k».proof.Proof.Ideal.Vals
public import Idealize.ShloMosaic.Lib.SparseCore.Quiescent
public import Idealize.ShloMosaic.Lib.SparseCore.Ops
public import Idealize.ShloMosaic.Lib.StableHlo.Run
public import Idealize.ShloMosaic.Lib.Tactic

@[expose] public section

noncomputable section

namespace Cert.KernelIdeal.Prf

open Cert.KernelIdeal Cert.KernelIdeal.Gen
open Idealize.ShloMosaic
open Idealize.ShloMosaic.SparseCore (S V T)
open Idealize.ShloMosaic.SparseCore.Cfg (HIx)
open Idealize.SL Idealize.SL.RA Idealize.SL.Sem
open Idealize.ShloMosaic.Rounds
open Idealize.ShloMosaic.ValueIdx

variable {F : FTy → Type}

abbrev ΛP : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

/-- The handshakes' rounds, the left factor. -/
abbrev EH : Emb UH (MT nD τ sig (HIx 1) (Elt F) ℕ UU ℕ) := embL
/-- The rounds of the region's staging copies, the left factor of the right factor. -/
abbrev EP : Emb UP (MT nD τ sig (HIx 1) (Elt F) ℕ UU ℕ) := (Emb.inl : Emb UP (UP × Counters)).trans embR

abbrev xLoc (d : Dev nD) : Loc nD τ sig := (SparseCore.T d).loc main_arg0
abbrev iLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev pLoc (d : Dev nD) : Loc nD τ sig := (SparseCore.T d).loc main_v0
abbrev b2Loc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0

/-- Entry (`n`, `c`) of the features, read off the array by plain numbers. -/
def xAt (X : Vec F S50000x256 .f32) (n c : Nat) : Elt F .f32 :=
  X (ix2 (⟨n % 50000, Nat.mod_lt _ (by omega)⟩ : Fin 50000) (⟨c % 256, Nat.mod_lt _ (by omega)⟩ : Fin 256))

/-- Segment number `n`. -/
def sAt (I : Vec F S50000 .i32) (n : Nat) : BitVec 32 := I (ix1 (⟨n % 50000, Nat.mod_lt _ (by omega)⟩ : Fin 50000))

/-- Every segment number is below 512. -/
def SegOK (I : Vec F S50000 .i32) : Prop := ∀ n, (sAt (F := F) I n).toNat < 512

end Cert.KernelIdeal.Prf
-- ==== Proof.Ideal.Step.lean ====
/-
  The tile kernel's loads, scatter-adds and inner loops: what each leaves in the tile's accumulator.

  The tile holds its three scratch buffers whole. `wp_unit` is one scatter-add, `wp_units` the 128 of a group of sixteen rows,
  `wp_t4` a trip of the innermost loop, `wp_rows` that whole loop, `wp_zero` the two nested loops that clear the accumulator.
-/
module

public import proofs.«01_k».proof.Proof.Ideal.Base
public import Idealize.ShloMosaic.Lib.Scf
public import Idealize.ShloMosaic.Lib.Writes

@[expose] public section

noncomputable section

namespace Cert.KernelIdeal.Prf

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ
local notation "sR" => (Memref.whole Cert.KernelIdeal.cc0_scratch0 : Memref Cert.KernelIdeal.sig Kind.scVector Space.vmem Cert.KernelIdeal.S80x128 EltTy.f32)
local notation "sI" => (Memref.whole Cert.KernelIdeal.cc0_scratch1 : Memref Cert.KernelIdeal.sig Kind.scVector Space.vmem Cert.KernelIdeal.S80 EltTy.i32)
local notation "sA" => (Memref.whole Cert.KernelIdeal.cc0_scratch2 : Memref Cert.KernelIdeal.sig Kind.scVector Space.vmem Cert.KernelIdeal.S512x128 EltTy.f32)

variable (d : Dev nD) (L : grid0.Coords)

/-- The tile's row buffer, its segment numbers and its accumulator, each whole at named contents. -/
abbrev rowsPts (R : Vec F S80x128 .f32) : sProp 𝕄 := (sR).view.loc (V d (cV L) (jV L)) ↦{fullShare} R
abbrev segsPts (I : Vec F S80 .i32) : sProp 𝕄 := (sI).view.loc (V d (cV L) (jV L)) ↦{fullShare} I
abbrev accPts (A : Vec F S512x128 .f32) : sProp 𝕄 := (sA).view.loc (V d (cV L) (jV L)) ↦{fullShare} A

omit [FloatOps F] in
theorem accPts_access (A : Vec F S512x128 .f32) :
    (((sA).access (.whole S512x128)).loc (V d (cV L) (jV L)) ↦[((sA).access (.whole S512x128)).set]{fullShare} A : sProp 𝕄) = accPts d L A := by
  rw [show ((sA).access (.whole S512x128)).set = Finset.univ from Memref.set_access_whole (cc0_scratch2 : Ref sig .scVector)]

omit [FloatOps F] in
theorem read_acc (A : Vec F S512x128 .f32) : ((sA).access (.whole S512x128)).read (Elt F) A = A := by
  exact Memref.read_access_whole (Elt F) (cc0_scratch2 : Ref sig .scVector) A

omit [FloatOps F] in
theorem write_acc (A B : Vec F S512x128 .f32) : ((sA).access (.whole S512x128)).write (Elt F) A B Finset.univ = B := by
  exact Memref.write_access_whole_univ (Elt F) (cc0_scratch2 : Ref sig .scVector) A B

/-- The accumulator that a scatter-add leaves, as the rule for it spells the contents. -/
theorem acc_after (v45 : Vec F S16 .i32) {j kk : Nat} (hj : j < 16) (hk : kk < 8) (t4 : Fin k0_t4_loop.trips)
    (R : Vec F S80x128 .f32) (A : Vec F S512x128 .f32) (s : Nat) (x : Nat → Elt F .f32)
    (hs : ∀ y, (useg j (slicesJ hj) v45 y).toNat = s)
    (hR : ∀ p : S80x128.Idx, (p 0).val = 16 * t4.val + j → R p = x (p 1).val)
    (h : ∀ a y, ((![useg j (slicesJ hj) v45, ucol kk] : Fin 2 → IVec S16 32) a y).toNat < S512x128.size a) :
    (((sA).access (.whole S512x128)).loc (V d (cV L) (jV L)) ↦[((sA).access (.whole S512x128)).set]{fullShare}
        ((sA).access (.whole S512x128)).write (Elt F) (midRow s x A kk)
          (storeIdx (((sA).access (.whole S512x128)).read (Elt F) (midRow s x A kk)) ![useg j (slicesJ hj) v45, ucol kk]
            (shapeCast S16 ((sR).view.readAt (Elt F)
              (Rect.unit (s := S80x128) (uoff j kk t4) S1x16.size (uoff_inb hj hk t4)).toLoadRect R) shapeCasts_S1x16_S16)
            (fun _ => 1#1) true h) Finset.univ : sProp 𝕄)
      ⊢ accPts d L (midRow s x A (kk + 1)) := by
  rw [accPts_access, read_acc, write_acc, storeIdx_unit (F := F) A _ s hs x hk _ ?hv]
  case hv =>
    intro y
    have e : ∀ a, ((Rect.unit (s := S80x128) (uoff j kk t4) S1x16.size (uoff_inb hj hk t4)).toLoadRect.idx (ix2 (0 : Fin 1) (y 0)) a).val
        = (![16 * t4.val + j, 16 * kk] : Fin 2 → Nat) a + (ix2 (0 : Fin 1) (y 0) a).val := fun a => by
      rw [LoadRect.idx_apply, ← uoff_eq hj]; simp
    rw [eq_ix1 y]
    refine (shapeCast_1a_a_apply _ _ _).trans ?_
    rw [View.readAt_apply]
    refine (hR _ ((e 0).trans (Nat.add_zero _))).trans (congrArg x (e 1))

/-- One scatter-add. -/
theorem wp_unit (t3 : Fin k0_t3_loop.trips) (h1 : k0_cond1 L t3 = 1#1) (t4 : Fin k0_t4_loop.trips) (v45 : Vec F S16 .i32) {j kk : Nat}
    (hj : j < 16) (hk : kk < 8) (R : Vec F S80x128 .f32) (A : Vec F S512x128 .f32) (s : Nat) (x : Nat → Elt F .f32)
    (hs : ∀ y, (useg j (slicesJ hj) v45 y).toNat = s) (hs5 : s < 512)
    (hR : ∀ p : S80x128.Idx, (p 0).val = 16 * t4.val + j → R p = x (p 1).val) :
    (iprop(rowsPts d L R ∗ accPts d L (midRow s x A kk)) : sProp 𝕄)
      ⊢ wp frame (wpE (defs₀ (F := F)) 𝒱₀ (V d (cV L) (jV L)) none) Set.univ (unit L sR sA t3 h1 t4 v45 j kk hj hk)
          fun _ => iprop(rowsPts d L R ∗ accPts d L (midRow s x A (kk + 1))) := by
  have hchk : k0_chk1 L t3 (useg j (slicesJ hj) v45) (ucol kk) := by
    intro _ ax y
    match ax with
    | 0 => show (useg j (slicesJ hj) v45 y).toNat < 512; rw [hs]; exact hs5
    | 1 =>
      show (ucol kk y).toNat < 128
      rw [ucol_toNat hk]
      have : (y 0).val < 16 := (y 0).isLt
      omega
  unfold unit
  simp only [Prog.lift, Prog.bind_op, Prog.bind_ret]
  rw [wp_assume_of _ _ _ _ hchk]
  iintro ⟨HR, HA⟩
  iapply (wp_load 𝒱₀ (V d (cV L) (jV L)) none Set.univ (m := sR) (S := Finset.univ) (Finset.subset_univ _)) $$ HR
  iintro HR
  ihave HA' := (Entails.of_eq (accPts_access (F := F) d L _).symm) $$ HA
  rw [← Prog.bind_pure (SparseCore.vectorStoreIdx _ _ _ _ _ _ _)]
  iapply (SparseCore.wp_vectorStoreIdx 𝒱₀ (V d (cV L) (jV L)) none Set.univ (base := sA)) $$ HA'
  iintro HA
  ihave HA2 := (acc_after d L v45 hj hk t4 R A s x hs hR _) $$ HA
  rw [Prog.pure_eq_ret, wp_ret]
  imodintro
  isplitl [HR]; · iexact HR
  iexact HA2

/-- The accumulator after the first `n` of the 128 steps of group `t4`, whose rows `sg`, `x` number from the chunk's first row. -/
def stepAcc (sg : Nat → BitVec 32) (x : Nat → Nat → Elt F .f32) (A : Vec F S512x128 .f32) (t4 n : Nat) : Vec F S512x128 .f32 :=
  midRow (sg (16 * t4 + n / 8)).toNat (x (16 * t4 + n / 8)) (accRows sg x A (16 * t4 + n / 8)) (n % 8)

theorem stepAcc_succ (sg : Nat → BitVec 32) (x : Nat → Nat → Elt F .f32) (A : Vec F S512x128 .f32) (t4 n : Nat) :
    stepAcc sg x A t4 (n + 1)
      = midRow (sg (16 * t4 + n / 8)).toNat (x (16 * t4 + n / 8)) (accRows sg x A (16 * t4 + n / 8)) (n % 8 + 1) := by
  unfold stepAcc
  by_cases h : n % 8 = 7
  · rw [show (n + 1) / 8 = n / 8 + 1 by omega, show (n + 1) % 8 = 0 by omega, midRow_zero, h, midRow_eight]
    rfl
  · rw [show (n + 1) / 8 = n / 8 by omega, show (n + 1) % 8 = n % 8 + 1 by omega]

/-- The steps from number `n` on. -/
theorem wp_units (t3 : Fin k0_t3_loop.trips) (h1 : k0_cond1 L t3 = 1#1) (t4 : Fin k0_t4_loop.trips) (v45 : Vec F S16 .i32)
    (R : Vec F S80x128 .f32) (A : Vec F S512x128 .f32) (sg : Nat → BitVec 32) (x : Nat → Nat → Elt F .f32)
    (hsg : ∀ n, (sg n).toNat < 512) (hv : ∀ y : S16.Idx, v45 y = sg (16 * t4.val + (y 0).val))
    (hR : ∀ p : S80x128.Idx, R p = x (p 0).val (p 1).val) : ∀ (m n : Nat) (h : n + m = 128),
    (iprop(rowsPts d L R ∗ accPts d L (stepAcc sg x A t4.val n)) : sProp 𝕄)
      ⊢ wp frame (wpE (defs₀ (F := F)) 𝒱₀ (V d (cV L) (jV L)) none) Set.univ (units L sR sA t3 h1 t4 v45 m n h)
          fun _ => iprop(rowsPts d L R ∗ accPts d L (stepAcc sg x A t4.val 128)) := by
  intro m
  induction m with
  | zero =>
    intro n h
    obtain rfl : n = 128 := by omega
    unfold units
    rw [Prog.pure_eq_ret, wp_ret]
    exact fupd_intro
  | succ m ih =>
    intro n h
    unfold units
    rw [wp_bind]
    refine (wp_unit d L t3 h1 t4 v45 (by omega) (by omega) R (accRows sg x A (16 * t4.val + n / 8)) (sg (16 * t4.val + n / 8)).toNat
      (x (16 * t4.val + n / 8)) (fun y => useg_toNat sg (16 * t4.val) (n / 8) (by omega) v45 hv y) (hsg _)
      (fun p hp => by rw [hR, hp])).trans ?_
    refine wp_mono frame _ _ fun _ => ?_
    rw [← stepAcc_succ]
    exact ih (n + 1) (by omega)

/-- A trip of the innermost loop: sixteen rows more. -/
theorem wp_t4 (t3 : Fin k0_t3_loop.trips) (h1 : k0_cond1 L t3 = 1#1) (t4 : Fin k0_t4_loop.trips)
    (xM : Memref sig .scVector .hbm S50000x256 .f32) (hxM : xM.IsWhole) (iM : Memref sig .scVector .hbm S50000 .i32) (hiM : iM.IsWhole)
    (pM : Memref sig .scVector .hbm S16x512x256 .f32) (hpM : pM.IsWhole) (c0 c1 c2 : DmaSems sig S_)
    (R : Vec F S80x128 .f32) (I : Vec F S80 .i32) (A : Vec F S512x128 .f32) (sg : Nat → BitVec 32) (x : Nat → Nat → Elt F .f32)
    (hsg : ∀ n, (sg n).toNat < 512) (hI : ∀ p : S80.Idx, I p = sg (p 0).val)
    (hR : ∀ p : S80x128.Idx, R p = x (p 0).val (p 1).val) (u : Unit) :
    (iprop(rowsPts d L R ∗ segsPts d L I ∗ accPts d L (accRows sg x A (16 * t4.val))) : sProp 𝕄)
      ⊢ wp frame (wpE (defs₀ (F := F)) 𝒱₀ (V d (cV L) (jV L)) none) Set.univ
          (k0_t4_body (F := F) L xM hxM iM hiM pM hpM sR (Memref.isWhole_whole _) sI (Memref.isWhole_whole _) sA (Memref.isWhole_whole _)
            c0 c1 c2 lanes t3 h1 t4 u)
          fun _ => iprop(rowsPts d L R ∗ segsPts d L I ∗ accPts d L (accRows sg x A (16 * (t4.val + 1)))) := by
  cases u
  rw [t4_body_eq]
  simp only [Prog.lift, Prog.bind_op, Prog.bind_ret]
  iintro ⟨HR, HI, HA⟩
  iapply (wp_load 𝒱₀ (V d (cV L) (jV L)) none Set.univ (m := sI) (S := Finset.univ) (Finset.subset_univ _)) $$ HI
  iintro HI
  have h0 : stepAcc sg x A t4.val 0 = accRows sg x A (16 * t4.val) := midRow_zero _ _ _
  have h128 : stepAcc sg x A t4.val 128 = accRows sg x A (16 * (t4.val + 1)) := midRow_zero _ _ _
  rw [← h0, ← h128]
  have hu := wp_units d L t3 h1 t4 ((sI).view.readAt (Elt F) (Rect.unit (s := S80) (k0_off4 t4) S16.size (k0_off4_inb L t3 t4 h1)).toLoadRect I)
    R A sg x hsg (fun y => by
      rw [View.readAt_apply]
      refine (hI _).trans (congrArg sg ?_)
      show k0_off4 t4 0 + 1 * (y 0).val = _
      rw [k0_off4_eq]; simp) hR 128 0 rfl
  ihave Hwp := hu $$ [HR HA]
  · isplitl [HR] <;> iassumption
  iapply (wp_wand_r frame _ _)
  isplitl [Hwp]; · iexact Hwp
  iintro %_ ⟨HR, HA⟩
  isplitl [HR]; · iexact HR
  isplitl [HI]; · iexact HI
  iexact HA

theorem trips_t4 : k0_t4_loop.trips = 5 := by decide
theorem trips_t2 : k0_t2_loop.trips = 8 := by decide
theorem trips_t1 : k0_t1_loop.trips = 512 := by decide

section Rows

theorem accRows_zero (sg : Nat → BitVec 32) (x : Nat → Nat → Elt F .f32) (A : Vec F S512x128 .f32) : accRows sg x A 0 = A := rfl

attribute [local irreducible] accRows

/-- The innermost loop: the eighty rows of a chunk. -/
theorem wp_rows (t3 : Fin k0_t3_loop.trips) (h1 : k0_cond1 L t3 = 1#1)
    (xM : Memref sig .scVector .hbm S50000x256 .f32) (hxM : xM.IsWhole) (iM : Memref sig .scVector .hbm S50000 .i32) (hiM : iM.IsWhole)
    (pM : Memref sig .scVector .hbm S16x512x256 .f32) (hpM : pM.IsWhole) (c0 c1 c2 : DmaSems sig S_)
    (R : Vec F S80x128 .f32) (I : Vec F S80 .i32) (A : Vec F S512x128 .f32) (sg : Nat → BitVec 32) (x : Nat → Nat → Elt F .f32)
    (hsg : ∀ n, (sg n).toNat < 512) (hI : ∀ p : S80.Idx, I p = sg (p 0).val)
    (hR : ∀ p : S80x128.Idx, R p = x (p 0).val (p 1).val) :
    (iprop(rowsPts d L R ∗ segsPts d L I ∗ accPts d L A) : sProp 𝕄)
      ⊢ wp frame (wpE (defs₀ (F := F)) 𝒱₀ (V d (cV L) (jV L)) none) Set.univ
          (Scf.Loop.for k0_t4_loop (k0_t4_ok L t3 h1) ⟨⟩
            (k0_t4_body (F := F) L xM hxM iM hiM pM hpM sR (Memref.isWhole_whole _) sI (Memref.isWhole_whole _) sA (Memref.isWhole_whole _)
              c0 c1 c2 lanes t3 h1))
          fun _ => iprop(rowsPts d L R ∗ segsPts d L I ∗ accPts d L (accRows sg x A 80)) := by
  iintro ⟨HR, HI, HA⟩
  iapply (Scf.wp_for frame (wpE (defs₀ (F := F)) 𝒱₀ (V d (cV L) (jV L)) none) Set.univ k0_t4_loop.lb k0_t4_loop.ub k0_t4_loop.st
    (k0_t4_ok L t3 h1) ⟨⟩
    (k0_t4_body (F := F) L xM hxM iM hiM pM hpM sR (Memref.isWhole_whole _) sI (Memref.isWhole_whole _) sA (Memref.isWhole_whole _)
      c0 c1 c2 lanes t3 h1)
    (fun n _ => iprop(rowsPts d L R ∗ segsPts d L I ∗ accPts d L (accRows sg x A (16 * n))))
    (fun k u => (wp_t4 d L t3 h1 k xM hxM iM hiM pM hpM c0 c1 c2 R I A sg x hsg hI hR u).trans
      (wp_mono frame _ _ fun _ => BI.Entails.refl _))
    (Q := fun _ => iprop(rowsPts d L R ∗ segsPts d L I ∗ accPts d L (accRows sg x A 80))))
  isplitl [HR HI HA]
  · isplitl [HR]; · iexact HR
    isplitl [HI]; · iexact HI
    rw [show accRows sg x A (16 * 0) = A from accRows_zero sg x A]
    iexact HA
  iintro %_ H
  rw [show Scf.trips k0_t4_loop.lb k0_t4_loop.ub k0_t4_loop.st = 5 from trips_t4]
  iexact H

end Rows

/-- The accumulator with its first `n` blocks of sixteen elements, counted along the rows, cleared. -/
def zeroed (f : Vec F S512x128 .f32) (n : Nat) : Vec F S512x128 .f32 :=
  fun p => if 8 * (p 0).val + (p 1).val / 16 < n then Scalar.ofBits .f32 0x00000000#32 else f p

theorem zeroed_zero (f : Vec F S512x128 .f32) : zeroed f 0 = f := funext fun p => if_neg (Nat.not_lt_zero _)

theorem zeroed_all (f : Vec F S512x128 .f32) : zeroed f 4096 = zacc := funext fun p => if_pos (by
  have h0 : (p 0).val < 512 := (p 0).isLt
  have h1 : (p 1).val < 128 := (p 1).isLt
  omega)

theorem zeroed_store (f : Vec F S512x128 .f32) (t1 : Fin k0_t1_loop.trips) (t2 : Fin k0_t2_loop.trips) :
    ((sA).access (Rect.unit (s := S512x128) (k0_off1 t1 t2) S1x16.size (k0_off1_inb t1 t2))).write (Elt F) (zeroed f (8 * t1.val + t2.val))
        (shapeCast S1x16 (k0_pay269 (F := F)) shapeCasts_S16_S1x16) Finset.univ
      = zeroed f (8 * t1.val + t2.val + 1) := by
  have ht2 : t2.val < 8 := lt_of_lt_of_eq t2.isLt trips_t2
  have key : ∀ y : S512x128.Idx, (sA).view.read (Elt F) ((sA).view.writes (Elt F) (zeroed f (8 * t1.val + t2.val))
      [⟨Rect.unit (s := S512x128) (k0_off1 t1 t2) S1x16.size (k0_off1_inb t1 t2), shapeCast S1x16 (k0_pay269 (F := F)) shapeCasts_S16_S1x16⟩]) y
        = zeroed f (8 * t1.val + t2.val + 1) y := by
    intro y
    have hy1 : (y 1).val < 128 := (y 1).isLt
    by_cases hin : (y 0).val = t1.val ∧ 16 * t2.val ≤ (y 1).val ∧ (y 1).val < 16 * t2.val + 16
    · obtain ⟨h0, h1, h2⟩ := hin
      refine (View.read_writes_cons_hit_of_coords (sA).view _ (Rect.unit (s := S512x128) (k0_off1 t1 t2) S1x16.size (k0_off1_inb t1 t2)) _ []
        (ix2 (0 : Fin 1) (⟨(y 1).val - 16 * t2.val, by omega⟩ : Fin 16)) y ?_).trans ?_
      · intro a
        match a with
        | 0 =>
          show (y 0).val = k0_off1 t1 t2 0 + 1 * 0
          rw [k0_off1_eq]; simpa using h0
        | 1 =>
          show (y 1).val = k0_off1 t1 t2 1 + 1 * ((y 1).val - 16 * t2.val)
          rw [k0_off1_eq]; show _ = 16 * t2.val + _; omega
      · unfold zeroed
        rw [if_pos (by omega)]
        rfl
    · have hmiss : ¬ ((y 0).val = t1.val) ∨ ((y 1).val < 16 * t2.val ∨ 16 * t2.val + 16 ≤ (y 1).val) := by omega
      have hz : zeroed f (8 * t1.val + t2.val) y = zeroed f (8 * t1.val + t2.val + 1) y := by
        unfold zeroed
        have : (8 * (y 0).val + (y 1).val / 16 < 8 * t1.val + t2.val) ↔ (8 * (y 0).val + (y 1).val / 16 < 8 * t1.val + t2.val + 1) := by
          omega
        simp only [this]
      refine Eq.trans ?_ hz
      rcases hmiss with h | h
      · exact View.read_writes_cons_miss_of_axis (sA).view _ _ [] y 0 t1.val 1
          (by show k0_off1 t1 t2 0 = _; rw [k0_off1_eq]; rfl) rfl rfl (by omega)
      · exact View.read_writes_cons_miss_of_axis (sA).view _ _ [] y 1 (16 * t2.val) 16
          (by show k0_off1 t1 t2 1 = _; rw [k0_off1_eq]; rfl) rfl rfl h
  exact funext key

/-- The two nested loops that clear the accumulator. -/
theorem wp_zero (xM : Memref sig .scVector .hbm S50000x256 .f32) (hxM : xM.IsWhole) (iM : Memref sig .scVector .hbm S50000 .i32) (hiM : iM.IsWhole)
    (pM : Memref sig .scVector .hbm S16x512x256 .f32) (hpM : pM.IsWhole) (c0 c1 c2 : DmaSems sig S_) (f : Vec F S512x128 .f32) :
    (accPts d L f : sProp 𝕄)
      ⊢ wp frame (wpE (defs₀ (F := F)) 𝒱₀ (V d (cV L) (jV L)) none) Set.univ
          (Scf.Loop.for k0_t1_loop k0_t1_ok ⟨⟩
            (k0_t1_body (F := F) L xM hxM iM hiM pM hpM sR (Memref.isWhole_whole _) sI (Memref.isWhole_whole _) sA (Memref.isWhole_whole _)
              c0 c1 c2))
          fun _ => accPts d L zacc := by
  have h2 (t1 : Fin k0_t1_loop.trips) (t2 : Fin k0_t2_loop.trips) (u : Unit) : (accPts d L (zeroed f (8 * t1.val + t2.val)) : sProp 𝕄)
      ⊢ wp frame (wpE (defs₀ (F := F)) 𝒱₀ (V d (cV L) (jV L)) none) Set.univ
          (k0_t2_body (F := F) L xM hxM iM hiM pM hpM sR (Memref.isWhole_whole _) sI (Memref.isWhole_whole _) sA (Memref.isWhole_whole _)
            c0 c1 c2 t1 t2 u)
          fun _ => accPts d L (zeroed f (8 * t1.val + (t2.val + 1))) := by
    unfold k0_t2_body
    simp only [Prog.lift, Prog.bind_op, Prog.bind_ret]
    iintro HA
    iapply (wp_load 𝒱₀ (V d (cV L) (jV L)) none Set.univ (m := sA) (S := Finset.univ) (Finset.subset_univ _)) $$ HA
    iintro HA
    iapply (wp_store 𝒱₀ (V d (cV L) (jV L)) none Set.univ (m := sA)
      (r := Rect.unit (s := S512x128) (k0_off1 t1 t2) S1x16.size (k0_off1_inb t1 t2)) (Mk := Finset.univ) (S := Finset.univ) (Finset.subset_univ _)) $$ HA
    iintro HA
    rw [zeroed_store, Prog.pure_eq_ret, wp_ret]
    imodintro
    iexact HA
  have hl2 (t1 : Fin k0_t1_loop.trips) (u : Unit) : (accPts d L (zeroed f (8 * t1.val)) : sProp 𝕄)
      ⊢ wp frame (wpE (defs₀ (F := F)) 𝒱₀ (V d (cV L) (jV L)) none) Set.univ
          (k0_t1_body (F := F) L xM hxM iM hiM pM hpM sR (Memref.isWhole_whole _) sI (Memref.isWhole_whole _) sA (Memref.isWhole_whole _)
            c0 c1 c2 t1 u)
          fun _ => accPts d L (zeroed f (8 * (t1.val + 1))) := by
    unfold k0_t1_body
    iintro HA
    iapply (Scf.wp_for_bind frame (wpE (defs₀ (F := F)) 𝒱₀ (V d (cV L) (jV L)) none) Set.univ k0_t2_loop.lb k0_t2_loop.ub k0_t2_loop.st
      k0_t2_ok ⟨⟩ _ (fun n _ => accPts d L (zeroed f (8 * t1.val + n))) (fun k u => h2 t1 k u)) $$ HA
    iintro %_ HA
    rw [Prog.pure_eq_ret, wp_ret, show Scf.trips k0_t2_loop.lb k0_t2_loop.ub k0_t2_loop.st = 8 from trips_t2]
    imodintro
    iexact HA
  have h := Scf.wp_for frame (wpE (defs₀ (F := F)) 𝒱₀ (V d (cV L) (jV L)) none) Set.univ k0_t1_loop.lb k0_t1_loop.ub k0_t1_loop.st
    k0_t1_ok ⟨⟩
    (k0_t1_body (F := F) L xM hxM iM hiM pM hpM sR (Memref.isWhole_whole _) sI (Memref.isWhole_whole _) sA (Memref.isWhole_whole _) c0 c1 c2)
    (fun n _ => accPts d L (zeroed f (8 * n))) (fun k u => hl2 k u) (Q := fun _ => accPts d L zacc)
  iintro HA
  iapply h
  isplitl [HA]
  · rw [show zeroed f (8 * 0) = f from zeroed_zero f]; iexact HA
  iintro %_ H
  rw [show Scf.trips k0_t1_loop.lb k0_t1_loop.ub k0_t1_loop.st = 512 from trips_t1, show zeroed f (8 * 512) = zacc from zeroed_all f]
  iexact H

end Cert.KernelIdeal.Prf
-- ==== Proof.Ideal.Tile.lean ====
/-
  One tile's task: the loop over its chunks of rows with the two copies of each, and the copy of its accumulator to its block of
  the partial sums.
-/
module

public import proofs.«01_k».proof.Proof.Ideal.Step

@[expose] public section

noncomputable section

namespace Cert.KernelIdeal.Prf

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S50000x256 EltTy.f32)
local notation "iW" => (Memref.whole Cert.KernelIdeal.main_arg1_scv : Memref Cert.KernelIdeal.sig Kind.scVector Space.hbm Cert.KernelIdeal.S50000 EltTy.i32)
local notation "pW" => (Memref.whole Cert.KernelIdeal.main_v0_scv : Memref Cert.KernelIdeal.sig Kind.scVector Space.hbm Cert.KernelIdeal.S16x512x256 EltTy.f32)
local notation "sR" => (Memref.whole Cert.KernelIdeal.cc0_scratch0 : Memref Cert.KernelIdeal.sig Kind.scVector Space.vmem Cert.KernelIdeal.S80x128 EltTy.f32)
local notation "sI" => (Memref.whole Cert.KernelIdeal.cc0_scratch1 : Memref Cert.KernelIdeal.sig Kind.scVector Space.vmem Cert.KernelIdeal.S80 EltTy.i32)
local notation "sA" => (Memref.whole Cert.KernelIdeal.cc0_scratch2 : Memref Cert.KernelIdeal.sig Kind.scVector Space.vmem Cert.KernelIdeal.S512x128 EltTy.f32)

/-! ## Where a tile reads and writes -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_eta (L : grid0.Coords) : coordsV (L 0) (L 1) = L := by
  funext a; match a with
  | 0 => rfl
  | 1 => rfl
  | ⟨_ + 2, h⟩ => exact absurd h (Nat.not_lt.2 (Nat.le_add_left _ _))

/-- Which of the sixteen interleaved row groups a tile sums, and which of the two column groups. -/
def rowGrp (L : grid0.Coords) : Nat := (2 * (L 1).val + (L 0).val) % 16
def colGrp (L : grid0.Coords) : Nat := (2 * (L 1).val + (L 0).val) / 16

theorem offs_all : ∀ (c : Fin (grid0.bound 0)) (s : Fin (grid0.bound 1)) (t : Fin k0_t3_loop.trips),
    (k0_cond1 (coordsV c s) t = 1#1 ↔ rowGrp (coordsV c s) + 16 * t.val < 625)
      ∧ k0_off2 (coordsV c s) t = ![80 * (rowGrp (coordsV c s) + 16 * t.val), 128 * colGrp (coordsV c s)]
      ∧ k0_off3 (coordsV c s) t = ![80 * (rowGrp (coordsV c s) + 16 * t.val)] := by
  decide +kernel

theorem offs_out : ∀ (c : Fin (grid0.bound 0)) (s : Fin (grid0.bound 1)),
    k0_off133 (coordsV c s) = ![rowGrp (coordsV c s), 0, 128 * colGrp (coordsV c s)] := by
  decide +kernel

theorem cond1_iff (L : grid0.Coords) (t : Fin k0_t3_loop.trips) : k0_cond1 L t = 1#1 ↔ rowGrp L + 16 * t.val < 625 := by
  have h := (offs_all (L 0) (L 1) t).1; rwa [coordsV_eta] at h
theorem off2_eq (L : grid0.Coords) (t : Fin k0_t3_loop.trips) :
    k0_off2 L t = ![80 * (rowGrp L + 16 * t.val), 128 * colGrp L] := by
  have h := (offs_all (L 0) (L 1) t).2.1; rwa [coordsV_eta] at h
theorem off3_eq (L : grid0.Coords) (t : Fin k0_t3_loop.trips) : k0_off3 L t = ![80 * (rowGrp L + 16 * t.val)] := by
  have h := (offs_all (L 0) (L 1) t).2.2; rwa [coordsV_eta] at h
theorem off133_eq (L : grid0.Coords) : k0_off133 L = ![rowGrp L, 0, 128 * colGrp L] := by
  have h := offs_out (L 0) (L 1); rwa [coordsV_eta] at h

theorem rowGrp_lt (L : grid0.Coords) : rowGrp L < 16 := Nat.mod_lt _ (by omega)
theorem colGrp_lt (L : grid0.Coords) : colGrp L < 2 := by
  have h0 : (L 0).val < 2 := (L 0).isLt
  have h1 : (L 1).val < 16 := (L 1).isLt
  unfold colGrp; omega

/-- The slice of the features that a chunk's first copy reads, and the slice of the segment numbers its second copy reads. -/
abbrev xChunk (L : grid0.Coords) (t : Fin k0_t3_loop.trips) (h1 : k0_cond1 L t = 1#1) : Memref sig .scVector .hbm S80x128 .f32 :=
  (xW).slice (Rect.unit (s := S50000x256) (k0_off2 L t) S80x128.size (k0_off2_inb L t h1)) (fun _ => rfl)
abbrev iChunk (L : grid0.Coords) (t : Fin k0_t3_loop.trips) (h1 : k0_cond1 L t = 1#1) : Memref sig .scVector .hbm S80 .i32 :=
  (iW).slice (Rect.unit (s := S50000) (k0_off3 L t) S80.size (k0_off3_inb L t h1)) (fun _ => rfl)
/-- The block of the partial sums that a tile writes. -/
abbrev pBlk (L : grid0.Coords) : Memref sig .scVector .hbm S512x128 .f32 :=
  ((pW).slice (Rect.unit (s := S16x512x256) (k0_off133 L) S1x512x128.size (k0_off133_inb L)) (fun _ => rfl)).squeeze S512x128
    squeezes_S1x512x128_S512x128

omit [FloatOps F] in
theorem xChunk_read (L : grid0.Coords) (t : Fin k0_t3_loop.trips) (h1 : k0_cond1 L t = 1#1) (X : Vec F S50000x256 .f32) (p : S80x128.Idx) :
    (xChunk L t h1).view.read (Elt F) X p = xAt X (80 * (rowGrp L + 16 * t.val) + (p 0).val) (128 * colGrp L + (p 1).val) := by
  have hc := (cond1_iff L t).1 h1
  have hg := colGrp_lt L
  have h0 : (p 0).val < 80 := (p 0).isLt
  have h1' : (p 1).val < 128 := (p 1).isLt
  refine congrArg X ?_
  funext a
  apply Fin.ext
  match a with
  | 0 =>
    show k0_off2 L t 0 + 1 * (p 0).val = (80 * (rowGrp L + 16 * t.val) + (p 0).val) % 50000
    rw [off2_eq, Nat.mod_eq_of_lt (by omega)]
    show 80 * (rowGrp L + 16 * t.val) + 1 * (p 0).val = _
    omega
  | 1 =>
    show k0_off2 L t 1 + 1 * (p 1).val = (128 * colGrp L + (p 1).val) % 256
    rw [off2_eq, Nat.mod_eq_of_lt (by omega)]
    show 128 * colGrp L + 1 * (p 1).val = _
    omega

omit [FloatOps F] in
theorem iChunk_read (L : grid0.Coords) (t : Fin k0_t3_loop.trips) (h1 : k0_cond1 L t = 1#1) (I : Vec F S50000 .i32) (p : S80.Idx) :
    (iChunk L t h1).view.read (Elt F) I p = sAt (F := F) I (80 * (rowGrp L + 16 * t.val) + (p 0).val) := by
  have hc := (cond1_iff L t).1 h1
  have h0 : (p 0).val < 80 := (p 0).isLt
  refine congrArg I ?_
  funext a
  apply Fin.ext
  have ha : a = (0 : Fin 1) := Subsingleton.elim (α := Fin 1) _ _
  subst ha
  show k0_off3 L t 0 + 1 * (p 0).val = (80 * (rowGrp L + 16 * t.val) + (p 0).val) % 50000
  rw [off3_eq, Nat.mod_eq_of_lt (by omega)]
  show 80 * (rowGrp L + 16 * t.val) + 1 * (p 0).val = _
  omega

/-- The partial sums: block (`r`, column group) is what tile's accumulator holds at the end. -/
def partsOf (X : Vec F S50000x256 .f32) (I : Vec F S50000 .i32) : Vec F S16x512x256 .f32 := fun p =>
  accTile (sAt (F := F) I) (fun n c => xAt X n (128 * ((p 2).val / 128) + c)) (p 0).val 40
    (ix2 (p 1 : Fin 512) (⟨(p 2).val % 128, Nat.mod_lt _ (by omega)⟩ : Fin 128))

/-- A tile's accumulator at the end. -/
abbrev accEnd (L : grid0.Coords) (X : Vec F S50000x256 .f32) (I : Vec F S50000 .i32) (k : Nat) : Vec F S512x128 .f32 :=
  accTile (sAt (F := F) I) (fun n c => xAt X n (128 * colGrp L + c)) (rowGrp L) k

/-- The indices of a tile's block. -/
theorem pBlk_emb (L : grid0.Coords) (p : S512x128.Idx) (a : Fin 3) :
    ((pBlk L).view.emb p a).val = (![rowGrp L, (p 0).val, 128 * colGrp L + (p 1).val] : Fin 3 → Nat) a := by
  have e : Shape.reshapeEquiv (squeezes_S1x512x128_S512x128).numel_eq p = ix3 (⟨0, Nat.one_pos⟩ : Fin 1) (p 0 : Fin 512) (p 1 : Fin 128) := by
    rw [eq_ix2 p]; exact reshapeEquiv_ix2_1ab _ _ _
  have h : ((pBlk L).view.emb p a).val
      = k0_off133 L a + 1 * (Shape.reshapeEquiv (squeezes_S1x512x128_S512x128).numel_eq p a).val := rfl
  rw [h, e, off133_eq]
  match a with
  | 0 => rfl
  | 1 => show 0 + 1 * (p 0).val = (p 0).val; omega
  | 2 => show 128 * colGrp L + 1 * (p 1).val = 128 * colGrp L + (p 1).val; omega

/-- What the last copy leaves in the tile's block is that block of the partial sums. -/
theorem blk_write (L : grid0.Coords) (X : Vec F S50000x256 .f32) (I : Vec F S50000 .i32) (f : Vec F S16x512x256 .f32)
    (w : Vec F S512x128 .f32) (h : w = accEnd L X I 40) :
    ∀ p ∈ (pBlk L).view.set, (pBlk L).view.writes (Elt F) f [⟨Rect.whole S512x128, w⟩] p = partsOf X I p := by
  subst h
  intro p hp
  obtain ⟨y, -, rfl⟩ := Finset.mem_map.1 hp
  have hw : (pBlk L).view.writes (Elt F) f [⟨Rect.whole S512x128, accEnd L X I 40⟩] ((pBlk L).view.emb y) = accEnd L X I 40 y := by
    have h := View.read_writes_cons_emb (v := (pBlk L).view) (Val := Elt F) (f := f) (Rect.whole S512x128) (accEnd L X I 40) [] y
    exact (congrArg ((pBlk L).view.writes (Elt F) f [⟨Rect.whole S512x128, accEnd L X I 40⟩])
      (congrArg (pBlk L).view.emb (Rect.emb_whole_apply S512x128 y).symm)).trans h
  rw [hw]
  have h0 := pBlk_emb L y 0
  have h1 := pBlk_emb L y 1
  have h2 := pBlk_emb L y 2
  have hy : (y 1).val < 128 := (y 1).isLt
  replace h0 : ((pBlk L).view.emb y 0).val = rowGrp L := h0
  replace h1 : ((pBlk L).view.emb y 1).val = (y 0).val := h1
  replace h2 : ((pBlk L).view.emb y 2).val = 128 * colGrp L + (y 1).val := h2
  show accEnd L X I 40 y = accTile (sAt (F := F) I) (fun n c => xAt X n (128 * (((pBlk L).view.emb y 2).val / 128) + c))
    ((pBlk L).view.emb y 0).val 40
    (ix2 ((pBlk L).view.emb y 1 : Fin 512) (⟨((pBlk L).view.emb y 2).val % 128, Nat.mod_lt _ (by omega)⟩ : Fin 128))
  rw [h0, show ((pBlk L).view.emb y 2).val / 128 = colGrp L by omega]
  refine congrArg _ ((eq_ix2 y).trans ?_)
  exact congrArg₂ ix2 (Fin.ext h1.symm) (Fin.ext (by show (y 1).val = ((pBlk L).view.emb y 2).val % 128; omega))

/-! ## The tile's own buffers and semaphores -/

section Tile

variable (d : Dev nD) (L : grid0.Coords)

abbrev cellR : GSem nD τ sig := (V d (cV L) (jV L), .dma cc0_scoped0.sem)
abbrev cellI : GSem nD τ sig := (V d (cV L) (jV L), .dma cc0_scoped1.sem)
abbrev cellO : GSem nD τ sig := (V d (cV L) (jV L), .dma cc0_scoped2.sem)

omit [FloatOps F] in
/-- The three copies' semaphores among the tile's own. -/
theorem ownSems0_V :
    (ownSems0 (V d (cV L) (jV L)) : sProp 𝕄)
      = iprop(semVal (cellR d L) 0 ∗ semVal (cellI d L) 0 ∗ semVal (cellO d L) 0
          ∗ bigSep ((((ownCells (V d (cV L) (jV L))).erase (cellR d L)).erase (cellI d L)).erase (cellO d L)) fun g => semVal g 0) := by
  unfold SparseCore.Cfg.ownSems0
  rw [SparseCore.bigSep_erase' ((mem_ownCells (g := cellR d L)).mpr ⟨rfl, by
      show (SemLoc.dma cc0_scoped0.sem : SemLoc sig).isScoped .scVector = true; decide⟩),
    SparseCore.bigSep_erase' (Finset.mem_erase.mpr ⟨by simp [cellR, cellI]; decide, (mem_ownCells (g := cellI d L)).mpr ⟨rfl, by
      show (SemLoc.dma cc0_scoped1.sem : SemLoc sig).isScoped .scVector = true; decide⟩⟩),
    SparseCore.bigSep_erase' (Finset.mem_erase.mpr ⟨by simp [cellI, cellO]; decide, Finset.mem_erase.mpr ⟨by simp [cellR, cellO]; decide,
      (mem_ownCells (g := cellO d L)).mpr ⟨rfl, by show (SemLoc.dma cc0_scoped2.sem : SemLoc sig).isScoped .scVector = true; decide⟩⟩⟩)]

omit [FloatOps F] in
/-- The three scratch buffers among the tile's own. -/
theorem ownBufs_V :
    (ownBufs (V d (cV L) (jV L)) : sProp 𝕄)
      = iprop((∃ f, rowsPts d L f) ∗ (∃ f, segsPts d L f) ∗ (∃ f, accPts d L f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]
  rfl

/-- A read share of the features and of the segment numbers, and the tile's block of the partial sums. -/
abbrev xShare (q : PosShare TreeShare) (X : Vec F S50000x256 .f32) : sProp 𝕄 := (xW).view.loc (V d (cV L) (jV L)) ↦{q} X
abbrev iShare (q : PosShare TreeShare) (I : Vec F S50000 .i32) : sProp 𝕄 := (iW).view.loc (V d (cV L) (jV L)) ↦{q} I
abbrev blkPts (f : Vec F S16x512x256 .f32) : sProp 𝕄 := (pBlk L).view.loc (V d (cV L) (jV L)) ↦[(pBlk L).view.set]{fullShare} f

/-- The tile's block after the last copy. -/
theorem blk_landed (X : Vec F S50000x256 .f32) (I : Vec F S50000 .i32) (f : Vec F S16x512x256 .f32)
    (w : Vec F S512x128 .f32) (h : w = accEnd L X I 40) :
    (blkPts d L ((pBlk L).view.writes (Elt F) f [⟨Rect.whole S512x128, w⟩]) : sProp 𝕄) ⊢ blkPts d L (partsOf X I) :=
  Entails.of_eq (pointsTo_congr (blk_write L X I f w h))

/-! ## The loop over chunks -/

/-- Before turn `k`: the accumulator has the chunks of the turns done, both copies' semaphores are at zero. -/
def chunkInv (q : PosShare TreeShare) (X : Vec F S50000x256 .f32) (I : Vec F S50000 .i32) (O : CellTallies nD τ sig (HIx 1)) (W : Waits sig (HIx 1))
    (k : Nat) (_ : PUnit) : sProp 𝕄 :=
  iprop(Transfers.MayWaits (V d (cV L) (jV L)) (none : HIx 1) O
    ∗ xShare d L q X ∗ iShare d L q I ∗ (∃ R, rowsPts d L R) ∗ (∃ J, segsPts d L J) ∗ accPts d L (accEnd L X I k)
    ∗ semVal (V d (cV L) (jV L), SemLoc.dma cc0_scoped0.sem) 0 ∗ semVal (V d (cV L) (jV L), SemLoc.dma cc0_scoped1.sem) 0
    ∗ ∃ W', ⌜∀ p ∈ W', p ∈ W ∨ p.2 = none⌝ ∗ owes (V d (cV L) (jV L)) O W')

omit [FloatOps F] in
/-- A copy into a whole scratch buffer leaves the copied words. -/
theorem rows_landed (R R' : Vec F S80x128 .f32) :
    (rowsPts d L ((sR).view.write (Elt F) R R' Finset.univ) : sProp 𝕄) ⊢ rowsPts d L R' :=
  Entails.of_eq (congrArg (rowsPts d L) (View.write_whole_univ (Val := Elt F) (cc0_scratch0 : Ref sig .scVector) R R'))
omit [FloatOps F] in
theorem segs_landed (J J' : Vec F S80 .i32) :
    (segsPts d L ((sI).view.write (Elt F) J J' Finset.univ) : sProp 𝕄) ⊢ segsPts d L J' :=
  Entails.of_eq (congrArg (segsPts d L) (View.write_whole_univ (Val := Elt F) (cc0_scratch1 : Ref sig .scVector) J J'))

/-- One more recorded wait of the copies' own level. -/
theorem waits_more {W W' : Waits sig (HIx 1)} {s : SemLoc sig} (h : ∀ p ∈ W', p ∈ W ∨ p.2 = none) :
    ∀ p ∈ insert (s, (default : HIx 1)) W', p ∈ W ∨ p.2 = none := fun p hp => by
  rcases Finset.mem_insert.mp hp with hp | hp
  · exact .inr (hp ▸ rfl)
  · exact h p hp

theorem chunk_step (q : PosShare TreeShare) (X : Vec F S50000x256 .f32) (I : Vec F S50000 .i32) (hI : SegOK I)
    (O : CellTallies nD τ sig (HIx 1)) (W : Waits sig (HIx 1)) (t : Fin k0_t3_loop.trips) (u : Unit) :
    (chunkInv d L q X I O W t.val u : sProp 𝕄)
      ⊢ wp frame (wpE (defs₀ (F := F)) 𝒱₀ (V d (cV L) (jV L)) none) Set.univ
          (k0_t3_body (F := F) L xW (Memref.isWhole_whole _) iW (Memref.isWhole_whole _) pW (Memref.isWhole_whole _)
            sR (Memref.isWhole_whole _) sI (Memref.isWhole_whole _) sA (Memref.isWhole_whole _) cc0_scoped0 cc0_scoped1 cc0_scoped2 lanes t u)
          fun v => chunkInv d L q X I O W (t.val + 1) v := by
  unfold k0_t3_body
  by_cases h1 : k0_cond1 L t = 1#1
  · have hc := (cond1_iff L t).1 h1
    unfold chunkInv
    iintro ⟨Hmw, Hx, Hi, ⟨%R, HR⟩, ⟨%J, HJ⟩, HA, HsR, HsI, %W', %hW', HO⟩
    sl_exec (disch := first | exact View.amount_pos _ _ (show 0 < S80x128.numel by decide) | exact View.amount_pos _ _ (show 0 < S80.numel by decide))
    ihave HR2 := (rows_landed d L _ _) $$ HR
    ihave HJ2 := (segs_landed d L _ _) $$ HJ
    simp only [wp_bind]
    iapply (wp_wand_r frame _ _)
    isplitl [HR2 HJ2 HA]
    · iapply (wp_rows d L t h1 xW (Memref.isWhole_whole _) iW (Memref.isWhole_whole _) pW (Memref.isWhole_whole _) cc0_scoped0 cc0_scoped1 cc0_scoped2
        _ _ _ (fun n => sAt (F := F) I (80 * (rowGrp L + 16 * t.val) + n))
        (fun n c => xAt X (80 * (rowGrp L + 16 * t.val) + n) (128 * colGrp L + c)) (fun n => hI _)
        (iChunk_read L t h1 I) (xChunk_read L t h1 X))
      isplitl [HR2]; · iexact HR2
      isplitl [HJ2]; · iexact HJ2
      iexact HA
    iintro %v ⟨HR, HJ, HA⟩
    sl_exec
    sl_step
    rw [show accEnd L X I (t.val + 1) = accRows (fun n => sAt (F := F) I (80 * (rowGrp L + 16 * t.val) + n))
        (fun n c => xAt X (80 * (rowGrp L + 16 * t.val) + n) (128 * colGrp L + c)) (accEnd L X I t.val) 80 from if_pos hc]
    isplitl [Hmw]; · iexact Hmw
    isplitl [Hx]; · iexact Hx
    isplitl [Hi]; · iexact Hi
    isplitl [HR]; · iexists _; iexact HR
    isplitl [HJ]; · iexists _; iexact HJ
    isplitl [HA]; · iexact HA
    isplitl [HsR]; · iexact HsR
    isplitl [HsI]; · iexact HsI
    iexists (insert (SemLoc.dma cc0_scoped1.sem, (default : HIx 1)) (insert (SemLoc.dma cc0_scoped0.sem, (default : HIx 1)) W')); isplitr
    · ipureintro; exact waits_more (waits_more hW')
    · iexact HO
  · have hc := fun h => h1 ((cond1_iff L t).2 h)
    unfold chunkInv
    rw [show accEnd L X I (t.val + 1) = accEnd L X I t.val from if_neg hc]
    iintro H
    sl_exec
    sl_step
    iexact H

theorem trips_t3 : k0_t3_loop.trips = 40 := by decide

/-- The loop over chunks. -/
theorem wp_chunks (q : PosShare TreeShare) (X : Vec F S50000x256 .f32) (I : Vec F S50000 .i32) (hI : SegOK I)
    (O : CellTallies nD τ sig (HIx 1)) (W : Waits sig (HIx 1)) :
    (chunkInv d L q X I O W 0 () : sProp 𝕄)
      ⊢ wp frame (wpE (defs₀ (F := F)) 𝒱₀ (V d (cV L) (jV L)) none) Set.univ
          (Scf.Loop.for k0_t3_loop k0_t3_ok ⟨⟩
            (k0_t3_body (F := F) L xW (Memref.isWhole_whole _) iW (Memref.isWhole_whole _) pW (Memref.isWhole_whole _)
              sR (Memref.isWhole_whole _) sI (Memref.isWhole_whole _) sA (Memref.isWhole_whole _) cc0_scoped0 cc0_scoped1 cc0_scoped2 lanes))
          fun v => chunkInv d L q X I O W 40 v := by
  have h := Scf.wp_for frame (wpE (defs₀ (F := F)) 𝒱₀ (V d (cV L) (jV L)) none) Set.univ k0_t3_loop.lb k0_t3_loop.ub k0_t3_loop.st
    k0_t3_ok ⟨⟩ (Q := fun v => chunkInv d L q X I O W 40 v)
    (k0_t3_body (F := F) L xW (Memref.isWhole_whole _) iW (Memref.isWhole_whole _) pW (Memref.isWhole_whole _)
      sR (Memref.isWhole_whole _) sI (Memref.isWhole_whole _) sA (Memref.isWhole_whole _) cc0_scoped0 cc0_scoped1 cc0_scoped2 lanes)
    (chunkInv d L q X I O W) (fun t u => chunk_step d L q X I hI O W t u)
  iintro H
  iapply h
  isplitl [H]; · iexact H
  iintro %v H
  rw [show Scf.trips k0_t3_loop.lb k0_t3_loop.ub k0_t3_loop.st = 40 from trips_t3]
  iexact H

/-! ## The whole task -/

/-- The task of the tile at `L`: its block of the partial sums is filled, all else is as it was. -/
theorem tile_body (hF : (K (F := F)).Facts) (q : PosShare TreeShare) (X : Vec F S50000x256 .f32) (I : Vec F S50000 .i32) (hI : SegOK I)
    (f : Vec F S16x512x256 .f32) (O : CellTallies nD τ sig (HIx 1)) (W : Waits sig (HIx 1)) (hO : ∀ g, O g none = 0) :
    iprop(levAts (K (F := F)).L (K (F := F)).lev ∗ emp ∗ (xShare d L q X ∗ iShare d L q I ∗ blkPts d L f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k (F := F) L xW (Memref.isWhole_whole _) iW (Memref.isWhole_whole _) pW (Memref.isWhole_whole _)
            sR (Memref.isWhole_whole _) sI (Memref.isWhole_whole _) sA (Memref.isWhole_whole _) cc0_scoped0 cc0_scoped1 cc0_scoped2)
          fun _ => iprop((xShare d L q X ∗ iShare d L q I ∗ blkPts d L (partsOf X I))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part25_eq_skeleton]; unfold k0_part25_skel
  rw [(K (F := F)).scopedBufs_V hF d (cV L) (jV L), SparseCore.Cfg.scopedSems0_V (Val := Elt F) d (cV L) (jV L), ownSems0_V, ownBufs_V]
  iintro ⟨#Hlv, -, ⟨Hx, Hi, Hp⟩, ⟨⟨%R, HR⟩, ⟨%J, HJ⟩, ⟨%A, HA⟩, Hbufs⟩, ⟨HsR, HsI, HsO, Hsems⟩, HO⟩
  ihave Hmw := ((K (F := F)).mayWaits_none (thr := V d (cV L) (jV L)) hO) $$ Hlv
  simp only [wp_bind]
  iapply (wp_wand_r frame _ _)
  isplitl [HA]
  · iapply (wp_zero d L xW (Memref.isWhole_whole _) iW (Memref.isWhole_whole _) pW (Memref.isWhole_whole _) cc0_scoped0 cc0_scoped1 cc0_scoped2 A)
    iexact HA
  iintro %_ HA
  iapply (wp_wand_r frame _ _)
  isplitl [Hmw Hx Hi HR HJ HA HsR HsI HO]
  · iapply (wp_chunks d L q X I hI O W)
    unfold chunkInv
    isplitl [Hmw]; · iexact Hmw
    isplitl [Hx]; · iexact Hx
    isplitl [Hi]; · iexact Hi
    isplitl [HR]; · iexists _; iexact HR
    isplitl [HJ]; · iexists _; iexact HJ
    isplitl [HA]; · iexact HA
    isplitl [HsR]; · iexact HsR
    isplitl [HsI]; · iexact HsI
    iexists W; isplitr
    · ipureintro; exact fun p hp => .inl hp
    · iexact HO
  iintro %_ HI
  unfold chunkInv
  icases HI with ⟨Hmw, Hx, Hi, ⟨%R', HR⟩, ⟨%J', HJ⟩, HA, HsR, HsI, %W', %hW', HO⟩
  sl_exec (disch := exact View.amount_pos _ _ (show 0 < S512x128.numel by decide))
  sl_step
  isplitl [Hx Hi Hp]
  · isplitl [Hx]; · iexact Hx
    isplitl [Hi]; · iexact Hi
    iapply (blk_landed d L X I f _ ?landed)
    case landed => exact View.read_whole (Val := Elt F) (cc0_scratch2 : Ref sig .scVector) (accEnd L X I 40)
    iexact Hp
  isplitl [HR HJ HA Hbufs]
  · isplitl [HR]; · iexists _; iexact HR
    isplitl [HJ]; · iexists _; iexact HJ
    isplitl [HA]; · iexists _; iexact HA
    iexact Hbufs
  isplitl [HsR HsI HsO Hsems]
  · isplitl [HsR]; · iexact HsR
    isplitl [HsI]; · iexact HsI
    isplitl [HsO]; · iexact HsO
    iexact Hsems
  iexists (insert (SemLoc.dma cc0_scoped2.sem, (default : HIx 1)) W'); isplitr
  · ipureintro; exact waits_more hW'
  · iexact HO

end Tile

end Cert.KernelIdeal.Prf
-- ==== Proof.Ideal.Region.lean ====
/-
  The TensorCore region: the body's run over its staging buffers, and the region as one step of the launch.

  The region stages the 16 partial sums, the matrix and the bias row whole, its body computes `k1_pay1` of the three, and the
  result is copied out whole.
-/
module

public import proofs.«01_k».proof.Proof.Ideal.Base
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop

@[expose] public section

noncomputable section

namespace Cert.KernelIdeal.Prf

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A buffer of core `c` held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

local notation "g0" => (Memref.whole cc1_stg0_0 : Memref sig Kind.tc Space.vmem S16x512x256 EltTy.f32)
local notation "g1" => (Memref.whole cc1_stg1_0 : Memref sig Kind.tc Space.vmem S10x256 EltTy.f32)
local notation "g2" => (Memref.whole cc1_stg2_0 : Memref sig Kind.tc Space.vmem S1x10 EltTy.f32)
local notation "g3" => (Memref.whole cc1_stg3_0 : Memref sig Kind.tc Space.vmem S512x10 EltTy.f32)

theorem zero2 : (![0, 0] : Fin 2 → Nat) = fun _ => 0 := funext fun a => by fin_cases a <;> rfl
theorem zero3 : (![0, 0, 0] : Fin 3 → Nat) = fun _ => 0 := funext fun a => by fin_cases a <;> rfl

/-- The result's buffer after the body's store, its loads and its store through the whole buffers. -/
theorem out_written (f0 : Vec F S16x512x256 .f32) (f1 : Vec F S10x256 .f32) (f2 : Vec F S1x10 .f32) (f3 : Vec F S512x10 .f32) :
    (g3).view.writes (Elt F) f3 [⟨Rect.unit ![0, 0] S512x10.size inb_S512x10_S512x10_0_0,
        k1_pay1 ((g0).view.readAt (Elt F) (Rect.unit ![0, 0, 0] S16x512x256.size inb_S16x512x256_S16x512x256_0_0_0).toLoadRect f0)
          ((g1).view.readAt (Elt F) (Rect.unit ![0, 0] S10x256.size inb_S10x256_S10x256_0_0).toLoadRect f1)
          ((g2).view.readAt (Elt F) (Rect.unit ![0, 0] S1x10.size inb_S1x10_S1x10_0_0).toLoadRect f2)⟩]
      = k1_pay1 f0 f1 f2 := by
  have h0 : (g0).view.readAt (Elt F) (Rect.unit ![0, 0, 0] S16x512x256.size inb_S16x512x256_S16x512x256_0_0_0).toLoadRect f0 = f0 :=
    Memref.readAt_unit_zero (Elt F) cc1_stg0_0 zero3 _ f0
  have h1 : (g1).view.readAt (Elt F) (Rect.unit ![0, 0] S10x256.size inb_S10x256_S10x256_0_0).toLoadRect f1 = f1 :=
    Memref.readAt_unit_zero (Elt F) cc1_stg1_0 zero2 _ f1
  have h2 : (g2).view.readAt (Elt F) (Rect.unit ![0, 0] S1x10.size inb_S1x10_S1x10_0_0).toLoadRect f2 = f2 :=
    Memref.readAt_unit_zero (Elt F) cc1_stg2_0 zero2 _ f2
  rw [h0, h1, h2]
  generalize k1_pay1 f0 f1 f2 = w
  rw [View.writes_singleton]
  exact Memref.write_access_unit_zero_univ (Elt F) cc1_stg3_0 zero2 inb_S512x10_S512x10_0_0 f3 w

/-- The body from the three staged blocks held whole: it runs to its return, the blocks as they were and the result's staging
    buffer at `k1_pay1` of them. -/
theorem wp_region_body (c : Dev nD) (f0 : Vec F S16x512x256 .f32) (f1 : Vec F S10x256 .f32) (f2 : Vec F S1x10 .f32) (f3 : Vec F S512x10 .f32)
    (E : Set ℕ) (Q : PUnit → sProp 𝕄) :
    iprop(pt c g0 f0 ∗ pt c g1 f1 ∗ pt c g2 f2 ∗ pt c g3 f3
        ∗ (iprop(pt c g0 f0 ∗ pt c g1 f1 ∗ pt c g2 f2 ∗ pt c g3 (k1_pay1 f0 f1 f2)) -∗ Q ⟨⟩))
      ⊢ wp frame (wpE (defs₀ (F := F)) Variants.none c none) E
          (cc1_body_skel g0 (Memref.isWhole_whole _) g1 (Memref.isWhole_whole _) g2 (Memref.isWhole_whole _) g3 (Memref.isWhole_whole _)) Q := by
  unfold cc1_body_skel
  iintro ⟨H0, H1, H2, H3, Hk⟩
  sl_exec
  sl_step
  iapply Hk
  isplitl [H0]; · iexact H0
  isplitl [H1]; · iexact H1
  isplitl [H2]; · iexact H2
  ihave H3' := (Entails.of_eq (congrArg (fun f => (pt c g3 f : sProp 𝕄)) (out_written f0 f1 f2 f3))) $$ H3
  iexact H3'

/-! ## The windows: each is the whole array -/

omit [FloatOps F] in
theorem blk0 (f : Vec F S16x512x256 .f32) : ((cfg1.win 0).blk t1_0).view.read (Elt F) f = f :=
  funext fun x => congrArg f (funext fun a => Fin.ext (Pipeline.Window.rect_emb_val_of_index_zero (cfg1.win 0) t1_0 a rfl x))
omit [FloatOps F] in
theorem blk1 (f : Vec F S10x256 .f32) : ((cfg1.win 1).blk t1_0).view.read (Elt F) f = f :=
  funext fun x => congrArg f (funext fun a => Fin.ext (Pipeline.Window.rect_emb_val_of_index_zero (cfg1.win 1) t1_0 a rfl x))
omit [FloatOps F] in
theorem blk2 (f : Vec F S1x10 .f32) : ((cfg1.win 2).blk t1_0).view.read (Elt F) f = f :=
  funext fun x => congrArg f (funext fun a => Fin.ext (Pipeline.Window.rect_emb_val_of_index_zero (cfg1.win 2) t1_0 a rfl x))
omit [FloatOps F] in
theorem emb3 (x : S512x10.Idx) : ((cfg1.win 3).blk t1_0).view.emb x = x :=
  funext fun a => Fin.ext (Pipeline.Window.rect_emb_val_of_index_zero (cfg1.win 3) t1_0 a rfl x)
omit [FloatOps F] in
theorem blk3 (f : Vec F S512x10 .f32) : ((cfg1.win 3).blk t1_0).view.read (Elt F) f = f :=
  funext fun x => congrArg f (emb3 x)

/-! ## The region's proof data -/

variable (V : (c : Dev nD) → (b : Ref sig .tc) → Buf (Elt F) ((c : Thread nD τ).loc b))

/-- The region's result from the arrays at `V`. -/
def outAt (c : Dev nD) : Vec F S512x10 .f32 := k1_pay1 (V c main_v0) (V c main_arg2) (V c main_v1)

/-- The pairs whose level is at most `8`: what the thread may have waited on once the SparseCore call is done. -/
def waited (c : Dev nD) : Set (SemLoc sig × HIx 1) := {p | (K (F := F)).lev ((c : Thread nD τ), p.1) p.2 ≤ 8}

/-- The data of one entry from the arrays at `V`: after the body the three inputs' buffers as fetched and the result's at `outAt`. -/
def dat (c : Dev nD) : Dat τ (Elt F) (HIx 1) ℕ UU ℕ cfg1 c where
  A w := V c (Pipeline.arrRef spec1 w)
  after w _ := match w with
    | ⟨0, _⟩ => V c main_v0
    | ⟨1, _⟩ => V c main_arg2
    | ⟨2, _⟩ => V c main_v1
    | ⟨3, _⟩ => outAt V c
  Φ _ := Pipeline.scopedRest (Ix := HIx 1) (Name := ℕ) (U := UU) (Lvl := ℕ) (Val := Elt F) spec1 c
  q _ := fullShare
  owed _ := 0
  recorded _ := waited (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg1.win 0).block.Idx → Elt F (cfg1.win 0).elt) : (dat V c).before 0 t1_0 d = V c main_v0 := by
  unfold Dat.before; rw [if_pos (by decide)]; exact blk0 (V c main_v0)
theorem before1 (c : Dev nD) (d : (cfg1.win 1).block.Idx → Elt F (cfg1.win 1).elt) : (dat V c).before 1 t1_0 d = V c main_arg2 := by
  unfold Dat.before; rw [if_pos (by decide)]; exact blk1 (V c main_arg2)
theorem before2 (c : Dev nD) (d : (cfg1.win 2).block.Idx → Elt F (cfg1.win 2).elt) : (dat V c).before 2 t1_0 d = V c main_v1 := by
  unfold Dat.before; rw [if_pos (by decide)]; exact blk2 (V c main_v1)

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = (dat V c).Φ t1_0.succ from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply (wp_region_body c (V c main_v0) (V c main_arg2) (V c main_v1) f3 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3); ipureintro; dsimp only [dat]; rfl

/-- The result's array when the region is done. -/
theorem arrAt_out (c : Dev nD) : (dat V c).arrAt 3 cfg1.N = outAt V c :=
  (dat V c).arrAt_eq_of_cover 3 (outAt V c)
    (fun t _ => by obtain rfl := fin_N1 t; exact (blk3 (outAt V c)).symm)
    (fun i => ⟨t1_0, flush1_3 t1_0, by
      have h : ((cfg1.win 3).blk t1_0).view.emb i ∈ ((cfg1.win 3).blk t1_0).view.set := Finset.mem_map_of_mem _ (Finset.mem_univ _)
      rw [emb3] at h; exact h⟩)

variable (Vp : (c : Dev nD) → (b : Ref sig .tc) → Buf (Elt F) ((c : Thread nD τ).loc b))

/-- What the thread owes around the region: nothing, its waits at levels at most `8`. -/
def owesIn (c : Dev nD) : sProp 𝕄 := iprop(∃ W : Waits sig (HIx 1), ⌜∀ p ∈ W, p ∈ waited (F := F) c⌝ ∗ owes (c : Thread nD τ) (0 : CellTallies nD τ sig (HIx 1)) W)

set_option backward.isDefEq.respectTransparency.types false in
/-- The region, over every unscoped buffer at `V c` and what the thread owes. -/
def reg (hVp_out : ∀ c, Vp c main_v2 = outAt V c) (hVp_ne : ∀ c (b : Ref sig .tc), b ≠ main_v2 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesIn c)
  post c := iprop(unscopedBufs c (Vp c) ∗ owesIn c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesIn
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest spec1 c from rfl]
    iintro ⟨-, -, Hr⟩; iexact Hr
  hout c := by
    rw [Pipeline.ownSems0_none, show (pdats V adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v0 (by decide)).symm
        · exact ((pdats V adm 0 c).arrAt_in 1 rfl _).trans (hVp_ne c main_arg2 (by decide)).symm
        · exact ((pdats V adm 0 c).arrAt_in 2 rfl _).trans (hVp_ne c main_v1 (by decide)).symm
        · exact (arrAt_out V c).trans (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin owesIn
    icases HO with ⟨%W, %hW, HO⟩; iexists W; isplitr
    · ipureintro
      intro p hp
      rcases hW hp with h | ⟨w, s, h⟩
      · exact h
      · subst h; exact Nat.zero_le _
    iexact HO

end Cert.KernelIdeal.Prf

end
-- ==== Proof.Ideal.Launch.lean ====
/-
  The launch: what the SparseCore call hands each SparseCore and each tile, the program on the TensorCore, the run.

  The features and the segment numbers are read by every tile, so each SparseCore and each of its tiles takes a share of them; the
  partial sums are cut into the 32 tiles' blocks.
-/
module

public import proofs.«01_k».proof.Proof.Ideal.Tile
public import proofs.«01_k».proof.Proof.Ideal.Region

@[expose] public section

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ
local notation "xW" => (Memref.whole Cert.KernelIdeal.main_arg0_scv : Memref Cert.KernelIdeal.sig Kind.scVector Space.hbm Cert.KernelIdeal.S50000x256 EltTy.f32)
local notation "iW" => (Memref.whole Cert.KernelIdeal.main_arg1_scv : Memref Cert.KernelIdeal.sig Kind.scVector Space.hbm Cert.KernelIdeal.S50000 EltTy.i32)
local notation "pW" => (Memref.whole Cert.KernelIdeal.main_v0_scv : Memref Cert.KernelIdeal.sig Kind.scVector Space.hbm Cert.KernelIdeal.S16x512x256 EltTy.f32)
local notation "sR" => (Memref.whole Cert.KernelIdeal.cc0_scratch0 : Memref Cert.KernelIdeal.sig Kind.scVector Space.vmem Cert.KernelIdeal.S80x128 EltTy.f32)
local notation "sI" => (Memref.whole Cert.KernelIdeal.cc0_scratch1 : Memref Cert.KernelIdeal.sig Kind.scVector Space.vmem Cert.KernelIdeal.S80 EltTy.i32)
local notation "sA" => (Memref.whole Cert.KernelIdeal.cc0_scratch2 : Memref Cert.KernelIdeal.sig Kind.scVector Space.vmem Cert.KernelIdeal.S512x128 EltTy.f32)

/-! ## The tiles' blocks -/

abbrev tileL (c : Fin 2) (s : Fin 16) : grid0.Coords := coordsV c s

/-- The block of tile `s` of SparseCore `c`. -/
def blkSet (cs : Fin 2 × Fin 16) : Finset S16x512x256.Idx := (pBlk (tileL cs.1 cs.2)).view.set

theorem mem_blkSet (cs : Fin 2 × Fin 16) (i : S16x512x256.Idx) :
    i ∈ blkSet cs ↔ (i 0).val = (2 * cs.2.val + cs.1.val) % 16 ∧ (i 2).val / 128 = (2 * cs.2.val + cs.1.val) / 16 := by
  have hr : rowGrp (tileL cs.1 cs.2) = (2 * cs.2.val + cs.1.val) % 16 := rfl
  have hc : colGrp (tileL cs.1 cs.2) = (2 * cs.2.val + cs.1.val) / 16 := rfl
  rw [← hr, ← hc]
  constructor
  · intro h
    obtain ⟨p, -, rfl⟩ := Finset.mem_map.mp h
    have h0 := pBlk_emb (tileL cs.1 cs.2) p 0
    have h2 := pBlk_emb (tileL cs.1 cs.2) p 2
    have hp : (p 1).val < 128 := (p 1).isLt
    refine ⟨h0, ?_⟩
    refine (congrArg (· / 128) h2).trans ?_
    show (128 * colGrp (tileL cs.1 cs.2) + (p 1).val) / 128 = _
    omega
  · rintro ⟨h0, h2⟩
    have hi : (pBlk (tileL cs.1 cs.2)).view.emb (ix2 (i 1 : Fin 512) (⟨(i 2).val % 128, Nat.mod_lt _ (by omega)⟩ : Fin 128)) = i := by
      funext a
      apply Fin.ext
      rw [pBlk_emb]
      match a with
      | 0 => exact h0.symm
      | 1 => rfl
      | 2 =>
        show 128 * colGrp (tileL cs.1 cs.2) + (i 2).val % 128 = (i 2).val
        omega
    rw [← hi]
    exact Finset.mem_map_of_mem _ (Finset.mem_univ _)

theorem blks_disjoint : ∀ a ∈ (Finset.univ : Finset (Fin 2 × Fin 16)), ∀ b ∈ (Finset.univ : Finset (Fin 2 × Fin 16)), a ≠ b → Disjoint (blkSet a) (blkSet b) := by
  intro a _ b _ hab
  refine Finset.disjoint_left.mpr fun i ha hb => hab ?_
  obtain ⟨h1, h2⟩ := (mem_blkSet a i).1 ha
  obtain ⟨h3, h4⟩ := (mem_blkSet b i).1 hb
  have := a.1.isLt; have := b.1.isLt
  exact Prod.ext (Fin.ext (by omega)) (Fin.ext (by omega))

theorem blks_cover : (Finset.univ : Finset (Fin 2 × Fin 16)).biUnion blkSet = Finset.univ := by
  refine Finset.eq_univ_iff_forall.mpr fun i => Finset.mem_biUnion.mpr ?_
  have h0 : (i 0).val < 16 := (i 0).isLt
  have h2 : (i 2).val < 256 := (i 2).isLt
  refine ⟨(⟨(16 * ((i 2).val / 128) + (i 0).val) % 2, by omega⟩, ⟨(16 * ((i 2).val / 128) + (i 0).val) / 2, by omega⟩), Finset.mem_univ _, ?_⟩
  rw [mem_blkSet]
  constructor
  · show _ = (2 * ((16 * ((i 2).val / 128) + (i 0).val) / 2) + (16 * ((i 2).val / 128) + (i 0).val) % 2) % 16
    omega
  · show _ = (2 * ((16 * ((i 2).val / 128) + (i 0).val) / 2) + (16 * ((i 2).val / 128) + (i 0).val) % 2) / 16
    omega

/-! ## What the call hands out -/

variable (m : (ℓ : Loc nD τ sig) → Buf (Elt F) ℓ) (ρ : Dev nD → PrngReg)

/-- The share of the inputs that SparseCore `c` takes, and of that the share its tile `s` takes. -/
def qCore (c : Fin 2) : PosShare TreeShare := Transfers.dealOf fullShare (Finset.univ : Finset (Fin 2)) c
def qTile (c : Fin 2) (s : Fin 16) : PosShare TreeShare := Transfers.dealOf (qCore c) (Finset.univ : Finset (Fin 16)) s

abbrev xPts (d : Dev nD) (q : PosShare TreeShare) : sProp 𝕄 := xLoc d ↦{q} m (xLoc d)
abbrev iPts (d : Dev nD) (q : PosShare TreeShare) : sProp 𝕄 := iLoc d ↦{q} m (iLoc d)
abbrev pPts (d : Dev nD) (cs : Fin 2 × Fin 16) (f : Buf (Elt F) (pLoc d)) : sProp 𝕄 := pLoc d ↦[blkSet cs]{fullShare} f

/-- The partial sums of the launch memory's features and segment numbers. -/
def partsM (d : Dev nD) : Buf (Elt F) (pLoc d) := partsOf (m (xLoc d)) (m (iLoc d))

def tileRes (d : Dev nD) (c : Fin 2) (s : Fin 16) (f : Buf (Elt F) (pLoc d)) : sProp 𝕄 :=
  iprop(xPts m d (qTile c s) ∗ iPts m d (qTile c s) ∗ pPts d (c, s) f)
def coreRes (d : Dev nD) (c : Fin 2) (f : Buf (Elt F) (pLoc d)) : sProp 𝕄 :=
  iprop(xPts m d (qCore c) ∗ iPts m d (qCore c) ∗ bigSep Finset.univ fun s : Fin 16 => pPts d (c, s) f)

theorem coreRes_tiles (d : Dev nD) (c : Fin 2) (f : Buf (Elt F) (pLoc d)) :
    coreRes m d c f = bigSep Finset.univ fun s : Fin 16 => tileRes m d c s f := by
  unfold coreRes tileRes qTile
  rw [bigSep_sep', bigSep_sep', ← Transfers.pointsTo_deal _ Finset.univ_nonempty, ← Transfers.pointsTo_deal _ Finset.univ_nonempty]

theorem whole_cores (d : Dev nD) (f : Buf (Elt F) (pLoc d)) :
    iprop(xPts m d fullShare ∗ iPts m d fullShare ∗ pLoc d ↦{fullShare} f) = bigSep Finset.univ fun c : Fin 2 => coreRes m d c f := by
  unfold coreRes qCore
  rw [bigSep_sep', bigSep_sep', ← Transfers.pointsTo_deal _ Finset.univ_nonempty, ← Transfers.pointsTo_deal _ Finset.univ_nonempty,
    ← bigSep_univ_prod (fun cs : Fin 2 × Fin 16 => pPts d cs f), ← pointsTo_biUnion Finset.univ (ℓ := pLoc d) blkSet blks_disjoint, blks_cover]

theorem nCore_zero : (K (F := F)).nCore 0 = 2 := rfl
theorem nSub_zero : (K (F := F)).nSub 0 = 16 := rfl

instance (d : Dev nD) (c : Fin 2) (s : Fin 16) (f : Buf (Elt F) (pLoc d)) : BI.Storable (upEmb : UEmb _ 𝕄) (tileRes m d c s f) := by
  unfold tileRes; infer_instance
instance (d : Dev nD) (c : Fin 2) (f : Buf (Elt F) (pLoc d)) : BI.Storable (upEmb : UEmb _ 𝕄) (coreRes m d c f) := by
  unfold coreRes; infer_instance

/-- The call's payloads: to the tiles the partial sums' blocks as they are at the launch, back from them at their values. -/
def P : (K (F := F)).Pay (nD := nD) (Val := Elt F) (Name := ℕ) (U := UU) where
  st := fun q d c => match q with | 0 => coreRes m d (Fin.cast nCore_zero c) (m (pLoc d))
  dn := fun q d c => match q with | 0 => coreRes m d (Fin.cast nCore_zero c) (partsM m d)
  go := fun q d c i => match q with | 0 => tileRes m d (Fin.cast nCore_zero c) (Fin.cast nSub_zero i) (m (pLoc d))
  td := fun q d c i => match q with | 0 => tileRes m d (Fin.cast nCore_zero c) (Fin.cast nSub_zero i) (partsM m d)
  x := fun _ _ => iprop(emp)

instance P_storable : (P (F := F) m).IsStorable where
  st q d c := match q with
    | 0 => (inferInstance : BI.Storable (upEmb : UEmb _ 𝕄) (coreRes m d (Fin.cast nCore_zero c) (m (pLoc d))))
  dn q d c := match q with
    | 0 => (inferInstance : BI.Storable (upEmb : UEmb _ 𝕄) (coreRes m d (Fin.cast nCore_zero c) (partsM m d)))
  go q d c i := match q with
    | 0 => (inferInstance : BI.Storable (upEmb : UEmb _ 𝕄) (tileRes m d (Fin.cast nCore_zero c) (Fin.cast nSub_zero i) (m (pLoc d))))
  td q d c i := match q with
    | 0 => (inferInstance : BI.Storable (upEmb : UEmb _ 𝕄) (tileRes m d (Fin.cast nCore_zero c) (Fin.cast nSub_zero i) (partsM m d)))

/-! ## The launch theorem's obligations -/

/-- Every segment number of every device's launch memory is below 512. -/
def PreOK : Prop := ∀ d : Dev nD, SegOK (F := F) (m (iLoc d))

theorem defs₀_vector (c : Fin τ.nSC) (s : Fin τ.nSub) :
    defs₀ (F := F) (.scVector c s) 0 ()
      = SparseCore.onTile hcore0 hsub0 (fun c s => cc0_k (coordsV c s)
          xW (Memref.isWhole_whole _) iW (Memref.isWhole_whole _) pW (Memref.isWhole_whole _)
          sR (Memref.isWhole_whole _) sI (Memref.isWhole_whole _) sA (Memref.isWhole_whole _) cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What a tile's task is handed, as the task's proof spells it. -/
theorem tileRes_eq (d : Dev nD) (c : Fin 2) (s : Fin 16) (f : Buf (Elt F) (pLoc d)) :
    tileRes m d c s f = iprop(xShare d (tileL c s) (qTile c s) (m (xLoc d)) ∗ iShare d (tileL c s) (qTile c s) (m (iLoc d)) ∗ blkPts d (tileL c s) f) := rfl

set_option maxRecDepth 1024 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (qTile (Fin.cast nCore_zero c) (Fin.cast nSub_zero i)) (m (xLoc d)) (m (iLoc d)) (hpre d)
    (m (pLoc d)) O W hO).trans (wp_mono frame _ _ fun _ => obl_post)

omit [FloatOps F] in
theorem bigSep_tasks [FloatOps F] (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores [FloatOps F] (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coreRes m d (Fin.cast nCore_zero c) (m (pLoc d)) ⊢ |={Set.univ}=> iprop(
      (bigSep Finset.univ fun i : Fin ((K (F := F)).nSub 0) => tileRes m d (Fin.cast nCore_zero c) (Fin.cast nSub_zero i) (m (pLoc d)))
      ∗ ((bigSep Finset.univ fun i : Fin ((K (F := F)).nSub 0) => tileRes m d (Fin.cast nCore_zero c) (Fin.cast nSub_zero i) (partsM m d))
          -∗ coreRes m d (Fin.cast nCore_zero c) (partsM m d)))
  rw [bigSep_tasks (F := F) (fun i => tileRes m d (Fin.cast nCore_zero c) i (m (pLoc d))),
    bigSep_tasks (F := F) (fun i => tileRes m d (Fin.cast nCore_zero c) i (partsM m d)), ← coreRes_tiles, ← coreRes_tiles]
  iintro H; imodintro
  isplitl [H]; · iexact H
  iintro H; iexact H

theorem st0_eq (d : Dev nD) : (bigSep Finset.univ fun c : Fin ((K (F := F)).nCore 0) => (P m).st 0 d c)
    = iprop(xPts m d fullShare ∗ iPts m d fullShare ∗ pLoc d ↦{fullShare} m (pLoc d)) := by
  rw [whole_cores]; exact bigSep_cores (F := F) (fun c => coreRes m d c (m (pLoc d)))
theorem dn0_eq (d : Dev nD) : (bigSep Finset.univ fun c : Fin ((K (F := F)).nCore 0) => (P m).dn 0 d c)
    = iprop(xPts m d fullShare ∗ iPts m d fullShare ∗ pLoc d ↦{fullShare} partsM m d) := by
  rw [whole_cores]; exact bigSep_cores (F := F) (fun c => coreRes m d c (partsM m d))

end Cert.KernelIdeal.Prf

end
-- ==== Proof.Ideal.Main.lean ====
/-
  The program on the TensorCore: the SparseCore call, the bias' reshape, the region; and the run of the whole program.
-/
module

public import proofs.«01_k».proof.Proof.Ideal.Launch

@[expose] public section

noncomputable section

namespace Cert.KernelIdeal.Prf

open Cert.KernelIdeal Cert.KernelIdeal.Gen
open Idealize.ShloMosaic
open Idealize.ShloMosaic.SparseCore (S V T)
open Idealize.ShloMosaic.SparseCore.Cfg (HIx Pay tileRest)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element of the ghost state -/

abbrev adm : (p : Fin 1) → (pcfgs (F := F) p).Adm := fun p => (cfgs p).toPCfg_adm

/-- The handshakes' rounds, and the rounds of the region's staging copies. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the TensorCore of device `d` is dealt beside the handshakes': the rounds of the region's staging copies. -/
def G (d : Dev nD) : sProp 𝕄 :=
  iprop(Pipeline.cellsGhost (Pipeline.pin (pcfgs (F := F)) adm) EP 0 d ∗ Pipeline.toksInit (Pipeline.pin (pcfgs (F := F)) adm) EP 0 d)

theorem region_ghost : (BI.own ((EP (F := F)) (initOf (Pipeline.cells (Pipeline.pin (pcfgs (F := F)) adm) cellOf_inj) (Pipeline.launchToks (Pipeline.pin (pcfgs (F := F)) adm) cellOf_inj))) : sProp 𝕄)
    ⊢ |==> bigSep Finset.univ fun d : Dev nD => G (F := F) d := by
  refine (Pipeline.fund_ghost (Pipeline.pin (pcfgs (F := F)) adm) EP cellOf_inj).trans (BI.bupd_mono ?_)
  unfold G
  rw [bigSep_sep']
  exact sep_mono (bigSep_mono fun c _ => bigSep_elim (Finset.mem_univ _)) (bigSep_mono fun c _ => bigSep_elim (Finset.mem_univ _))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  imod (region_ghost (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays along the program -/

abbrev dr (b : Ref sig .tc) : DevRef τ sig := Proc.devRef .tc b
abbrev opR : HloOp τ sig (Elt F) := StableHlo.reshape main_arg3 main_v1 (rfl : (.f32 : EltTy) = .f32) shapeCasts_S10_S1x10

/-- The arrays of the TensorCore. -/
abbrev S7 : Finset (DevRef τ sig) := {dr main_arg0, dr main_arg1, dr main_arg2, dr main_arg3, dr main_v0, dr main_v1, dr main_v2}

omit [FloatOps F] in
theorem held_S7 (d : Dev nD) (W : Valuation τ sig (Elt F)) :
    (held (T d) S7 W : sProp 𝕄) = iprop((xLoc d ↦{fullShare} W (dr main_arg0)) ∗ (iLoc d ↦{fullShare} W (dr main_arg1))
      ∗ (wLoc d ↦{fullShare} W (dr main_arg2)) ∗ (bLoc d ↦{fullShare} W (dr main_arg3)) ∗ (pLoc d ↦{fullShare} W (dr main_v0))
      ∗ (b2Loc d ↦{fullShare} W (dr main_v1)) ∗ oLoc d ↦{fullShare} W (dr main_v2)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (wLoc d ↦{fullShare} W main_arg2) ∗ (bLoc d ↦{fullShare} W main_arg3) ∗ (pLoc d ↦{fullShare} W main_v0)
      ∗ (b2Loc d ↦{fullShare} W main_v1) ∗ oLoc d ↦{fullShare} W main_v2) := by
  unfold unscopedBufs
  rw [show (Finset.univ.filter fun b : Ref sig .tc => ¬ b.isScoped)
      = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch, after the call, after the reshape, after the region. -/
def V0 (d : Dev nD) : Valuation τ sig (Elt F) := fun b => m (d, b)
def V1 (d : Dev nD) : Valuation τ sig (Elt F) := Function.update (V0 m d) (dr main_v0) (partsM m d)
def V2 (d : Dev nD) : Valuation τ sig (Elt F) := (opR (F := F)).result (V1 m d)
def V2' (d : Dev nD) (b : Ref sig .tc) : Buf (Elt F) ((d.tc : Thread nD τ).loc b) := V2 m d (dr b)
def V3 (d : Dev nD) : Valuation τ sig (Elt F) := Function.update (V2 m d) (dr main_v2) (outAt (V2' m) d)
def V3' (d : Dev nD) (b : Ref sig .tc) : Buf (Elt F) ((d.tc : Thread nD τ).loc b) := V3 m d (dr b)

theorem V1_ne (d : Dev nD) (b : DevRef τ sig) (h : b ≠ dr main_v0) : V1 m d b = m (d, b) := Function.update_of_ne h _ _
theorem V1_p (d : Dev nD) : V1 m d (dr main_v0) = partsM m d := Function.update_self _ _ _
theorem V2_ne (d : Dev nD) (b : Ref sig .tc) (h : b ≠ main_v1) : V2 m d (dr b) = V1 m d (dr b) :=
  StableHlo.reshape_result_ne _ _ _ _ _ _ _ h
theorem V3_ne (d : Dev nD) (b : Ref sig .tc) (h : b ≠ main_v2) : V3' m d b = V2' m d b :=
  Function.update_of_ne (StableHlo.devRef_ne_of_ne h) _ _
theorem V3_o (d : Dev nD) : V3' m d main_v2 = outAt (V2' m) d := by
  unfold V3' V3; exact Function.update_self _ _ _

/-- The program's result from the launch memory. -/
def outM (d : Dev nD) : Buf (Elt F) (oLoc d) :=
  k1_pay1 (partsM m d) (m (wLoc d)) (shapeCast S1x10 (m (bLoc d) : Vec F S10 .f32) shapeCasts_S10_S1x10)

theorem V2_b2 (d : Dev nD) : V2 m d (dr main_v1) = shapeCast S1x10 (m (bLoc d) : Vec F S10 .f32) shapeCasts_S10_S1x10 := by
  unfold V2 opR
  refine (StableHlo.reshape_result _ _ _ _ _ _ _).trans ?_
  rw [V1_ne m d (dr main_arg3) (by decide)]
  rfl

theorem outAt_eq (d : Dev nD) : outAt (V2' m) d = outM m d := by
  have h0 : V2' m d main_v0 = partsM m d := (V2_ne m d main_v0 (by decide)).trans (V1_p m d)
  have h1 : V2' m d main_arg2 = m (wLoc d) := (V2_ne m d main_arg2 (by decide)).trans (V1_ne m d _ (by decide))
  have h2 : V2' m d main_v1 = shapeCast S1x10 (m (bLoc d) : Vec F S10 .f32) shapeCasts_S10_S1x10 := V2_b2 m d
  unfold outAt outM
  rw [h0, h1, h2]

/-- What the program leaves: its arguments as at the launch, its result at `outM`. -/
abbrev FIN (d : Dev nD) : sProp 𝕄 :=
  iprop((xLoc d ↦{fullShare} m (xLoc d)) ∗ (iLoc d ↦{fullShare} m (iLoc d)) ∗ (wLoc d ↦{fullShare} m (wLoc d))
    ∗ (bLoc d ↦{fullShare} m (bLoc d)) ∗ oLoc d ↦{fullShare} outM m d)

theorem V3_arg (d : Dev nD) (b : Ref sig .tc) (h2 : b ≠ main_v2) (h1 : b ≠ main_v1) (h0 : b ≠ main_v0) : V3' m d b = m (d, dr b) :=
  (V3_ne m d b h2).trans ((V2_ne m d b h1).trans (V1_ne m d _ (StableHlo.devRef_ne_of_ne h0)))

theorem fin_of (d : Dev nD) : (unscopedBufs d (V3' m d) : sProp 𝕄) ⊢ FIN m d := by
  rw [unscopedBufs_eq, V3_arg m d main_arg0 (by decide) (by decide) (by decide), V3_arg m d main_arg1 (by decide) (by decide) (by decide),
    V3_arg m d main_arg2 (by decide) (by decide) (by decide), V3_arg m d main_arg3 (by decide) (by decide) (by decide),
    V3_o, outAt_eq]
  iintro ⟨Hx, Hi, Hw, Hb, -, -, Ho⟩
  isplitl [Hx]; · iexact Hx
  isplitl [Hi]; · iexact Hi
  isplitl [Hw]; · iexact Hw
  isplitl [Hb]; · iexact Hb
  iexact Ho

theorem unscoped_held (d : Dev nD) (W : Valuation τ sig (Elt F)) : (unscopedBufs d (fun b => W (dr b)) : sProp 𝕄) = held (T d) S7 W := by
  rw [unscopedBufs_eq, held_S7]

theorem hR : (opR (F := F)).bufs ⊆ S7 := show ({dr main_arg3, dr main_v1} : Finset (DevRef τ sig)) ⊆ S7 by decide

/-! ## The program -/

instance : (EP (F := F)).LandsIn (upEmb : UEmb _ 𝕄) := by unfold EP; infer_instance

/-- The region's call, between the arrays as the reshape leaves them and the arrays with the result written. -/
theorem wp_region [∀ e, Nonempty (Elt F e)] (d : Dev nD) (Q : PUnit → sProp 𝕄) :
    iprop((iprop(boundary (T d) ∗ unscopedBufs d (V3' m d) ∗ owesIn (F := F) d) -∗ Q ⟨⟩)
        ∗ boundary (T d) ∗ (unscopedBufs d (V2' m d) ∗ owesIn (F := F) d) ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have hl := (K (F := F)).wp_liftProg (D (F := F)) 𝒱 (T d) Set.univ none (α := PUnit) (.op (.customCall (Pipeline.entry 0) ()) .ret) Q
  have hreg := Pipeline.RegionSeg.wp (pcfgs (F := F)) adm (pdats (V2' m) adm) none cellOf_inj EP defs₀ 𝒱₀ (K (F := F)).L (K (F := F)).lev
    (reg (V2' m) adm (V3' m) (V3_o m) (V3_ne m)) d none (fun u hu => nomatch hu) .ret Q
  have hpre : (reg (V2' m) adm (V3' m) (V3_o m) (V3_ne m)).pre d = iprop(unscopedBufs d (V2' m d) ∗ owesIn (F := F) d) := rfl
  have hpost : (reg (V2' m) adm (V3' m) (V3_o m) (V3_ne m)).post d = iprop(unscopedBufs d (V3' m d) ∗ owesIn (F := F) d) := rfl
  rw [hpre, hpost] at hreg
  unfold G
  iintro ⟨Hk, Hb, Hpre, Hlev, Hg, Ht⟩
  iapply hl
  iapply hreg
  isplitl [Hk]
  · iintro ⟨Hb, Hpost⟩
    rw [wp_ret]; imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S7 (V0 m d) from unscoped_held d (V0 m d)]
  simp only [main, wp_bind, wp_pure]
  iintro ⟨#Hctx, Hst, ⟨Hb, Hheld, Hts, -⟩, HG⟩
  ihave Hh := (Entails.of_eq (held_S7 (F := F) d _)) $$ Hheld
  icases Hh with ⟨Hx, Hi, Hw, Hbi, Hp, Hb2, Ho⟩
  iapply ((K (F := F)).wp_run (D (F := F)) 𝒱 (EH := EH) (P := P m) κ d 0) $$ [Hst Hx Hi Hp Hb Hw Hbi Hb2 Ho Hts HG]
  isplitr; · iexact Hctx
  isplitl [Hst]; · iexact Hst
  isplitl [Hx Hi Hp]
  · rw [st0_eq]
    isplitl [Hx]; · iexact Hx
    isplitl [Hi]; · iexact Hi
    iexact Hp
  iintro ⟨Hst, Hdn⟩
  ihave Hdn' := (Entails.of_eq (dn0_eq m d)) $$ Hdn
  icases Hdn' with ⟨Hx, Hi, Hp⟩
  iapply (wp_hlo_within 𝒱 (SparseCore.T d) none Set.univ (op := opR) (S := S7) hR (V := V1 m d)) $$ [Hb Hx Hi Hw Hbi Hp Hb2 Ho]
  · isplitl [Hb]; · iexact Hb
    rw [held_S7, V1_ne m d _ (by decide), V1_ne m d _ (by decide), V1_ne m d _ (by decide), V1_ne m d _ (by decide), V1_p,
      V1_ne m d _ (by decide), V1_ne m d _ (by decide)]
    isplitl [Hx]; · iexact Hx
    isplitl [Hi]; · iexact Hi
    isplitl [Hw]; · iexact Hw
    isplitl [Hbi]; · iexact Hbi
    isplitl [Hp]; · iexact Hp
    isplitl [Hb2]; · iexact Hb2
    iexact Ho
  iintro ⟨Hb, Hheld⟩
  rw [wp_ret]; imodintro
  unfold SparseCore.Cfg.tcSt
  icases Hst with ⟨⟨%W, %hW, HO⟩, Hrest⟩
  rw [(K (F := F)).Otc_end d (n := (0 : Fin 1).val + 1) le_rfl]
  iapply (wp_region m d _)
  isplitl [Hrest Hts]
  · iintro ⟨Hb, Hub, HO⟩
    imodintro
    unfold owesIn
    icases HO with ⟨%W', %hW', HO⟩
    isplitl [HO Hrest]
    · isplitl [HO]
      · rw [(K (F := F)).Otc_end d (n := 1) le_rfl]
        iexists W'; isplitr
        · ipureintro; exact hW'
        · iexact HO
      · iexact Hrest
    isplitl [Hub]
    · iapply (fin_of m d); iexact Hub
    isplitl [Hb] <;> iassumption
  isplitl [Hb]; · iexact Hb
  isplitl [Hheld HO]
  · isplitl [Hheld]
    · iapply (Entails.of_eq (unscoped_held d (V2 m d)).symm); iexact Hheld
    · unfold owesIn
      iexists W; isplitr
      · ipureintro; exact hW
      · iexact HO
  isplitr
  · iapply (SparseCore.Cfg.ctx_levAts κ); iexact Hctx
  iexact HG

def fq (d : Dev nD) (s' : Phys nD τ sig (Elt F)) : Prop :=
  s'.mem.mem (xLoc d) = m (xLoc d) ∧ s'.mem.mem (iLoc d) = m (iLoc d) ∧ s'.mem.mem (wLoc d) = m (wLoc d) ∧ s'.mem.mem (bLoc d) = m (bLoc d)
    ∧ s'.mem.mem (oLoc d) = outM m d

theorem hfin (d : Dev nD) (s' : Phys nD τ sig (Elt F)) : iprop(FIN m d ∗ SI s') ⊢ (⌜fq m d s'⌝ : sProp 𝕄) := by
  iintro ⟨⟨Hx, Hi, Hw, Hb, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h4, HSI, -⟩
  ihave H := (SI_pointsTo_agree (st := s') (ℓ := oLoc d) (I := Finset.univ) (q := fullShare) (f := outM m d)) $$ [HSI Ho]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

def QC : PUnit × MemSt nD τ sig (Elt F) → Prop := fun r =>
  (∀ c : Dev nD, r.2.mem (xLoc c) = m (xLoc c) ∧ r.2.mem (iLoc c) = m (iLoc c) ∧ r.2.mem (wLoc c) = m (wLoc c) ∧ r.2.mem (bLoc c) = m (bLoc c)
    ∧ r.2.mem (oLoc c) = outM m c) ∧ r.2.sem = fun _ => 0

/-- The run of the program: its arguments unchanged, its result at `outM`, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.KernelIdeal.Prf

end
-- ==== Proof.Ideal.Frame.lean ====
/-
  The program's frame: it runs, its arguments end unchanged, and every semaphore is at zero.
-/
module

public import proofs.«01_k».proof.Proof.Ideal.Main
public import proofs.«01_k».proof.Proof.Pre

@[expose] public section

noncomputable section

namespace Cert.KernelIdeal.Prf

open Cert.KernelIdeal Cert.KernelIdeal.Gen
open Idealize.ShloMosaic Idealize.SL.Sem
open Idealize.ShloMosaic.ValueIdx

variable {F : FTy → Type} [FloatOps F]

/-- The precondition on the segment numbers is what the proof asks of the launch memory. -/
theorem ok_of_pre (m : (ℓ : Loc nD τ sig) → Buf (Elt F) ℓ)
    (h : ∀ c : Dev nD, Cert.Pre_in_range.fn (F := F) (m (xLoc c)) (m (iLoc c)) (m (wLoc c)) (m (bLoc c)) = fun _ => 1#1) : PreOK m :=
  fun d n => PreRead.seg_lt _ _ _ _ (h d) (ix1 (⟨n % 50000, Nat.mod_lt _ (by omega)⟩ : Fin 50000))

/-- The run with the arguments and the counters only. -/
theorem frame_of [∀ e, Nonempty (Elt F e)] (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r =>
      (∀ c : Dev nD, r.2.mem (xLoc c) = m (xLoc c) ∧ r.2.mem (iLoc c) = m (iLoc c) ∧ r.2.mem (wLoc c) = m (wLoc c)
        ∧ r.2.mem (bLoc c) = m (bLoc c)) ∧ r.2.sem = fun _ => 0) :=
  (θ_run _ _ _).mono (fun _ h => ⟨fun c => ⟨(h.1 c).1, (h.1 c).2.1, (h.1 c).2.2.1, (h.1 c).2.2.2.1⟩, h.2⟩) (run_main m ρ hpre)

end Cert.KernelIdeal.Prf

end
-- ==== Proof.Sums.lean ====
/-
  Facts about sums of extended reals and about the log-softmax of a row of finite ones, with no program in them.
-/
module

public import Idealize.ShloMosaic.PureOps.Ideal
public import Idealize.ShloMosaic.PureOps.Ideal.Laws

@[expose] public section

noncomputable section

namespace Cert.Sums

open Idealize.ShloMosaic
open scoped BigOperators

variable {M : Type} [AddCommMonoid M]

/-- The numbers below `a * b` are `b` after `b`, `a` times. -/
theorem sum_chunks (f : ℕ → M) (b a : ℕ) :
    ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

/-- Sixteen workers of which number `r` takes the chunks `r + 16 i`, forty turns each, the chunks beyond 624 left out,
    handle each of the 625 chunks of eighty once. -/
theorem sum_workers (f : ℕ → M) :
    ∑ r : Fin 16, ∑ i ∈ Finset.range 40, (if r.val + 16 * i < 625 then ∑ j ∈ Finset.range 80, f (80 * (r.val + 16 * i) + j) else 0)
      = ∑ n : Fin 50000, f n.val := by
  have h1 := sum_chunks (fun q => if q < 625 then ∑ j ∈ Finset.range 80, f (80 * q + j) else 0) 16 40
  have h2 : ∑ q ∈ Finset.range (16 * 40), (if q < 625 then ∑ j ∈ Finset.range 80, f (80 * q + j) else 0)
      = ∑ q ∈ Finset.range 625, ∑ j ∈ Finset.range 80, f (80 * q + j) := by
    rw [← Finset.sum_filter]
    refine Finset.sum_congr ?_ fun _ _ => rfl
    ext q
    simp only [Finset.mem_filter, Finset.mem_range]
    omega
  rw [← Finset.sum_range (n := 50000) f, ← Finset.sum_range (n := 16)
    (fun r => ∑ i ∈ Finset.range 40, if r + 16 * i < 625 then ∑ j ∈ Finset.range 80, f (80 * (r + 16 * i) + j) else 0),
    Finset.sum_comm, show (50000 : ℕ) = 80 * 625 from rfl, ← sum_chunks f 80 625, ← h2, ← h1]
  refine Finset.sum_congr rfl fun i _ => Finset.sum_congr rfl fun r _ => ?_
  rw [Nat.add_comm r]

/-- The word that a maximum starts from is the least extended real. -/
theorem ofBits_bot : Ideal.ofBits .f32 0xFF800000#32 = (⊥ : EReal) := by
  simp [Ideal.ofBits, Ideal.ieee]

/-- Neither infinity. -/
def Fin' (v : EReal) : Prop := v ≠ ⊤ ∧ v ≠ ⊥

theorem Fin'.coe (r : ℝ) : Fin' (r : EReal) := ⟨EReal.coe_ne_top r, EReal.coe_ne_bot r⟩

theorem Fin'.real {v : EReal} (h : Fin' v) : ∃ r : ℝ, v = (r : EReal) := ⟨v.toReal, (EReal.coe_toReal h.1 h.2).symm⟩

theorem Fin'.add {v w : EReal} (hv : Fin' v) (hw : Fin' w) : Fin' (v + w) := by
  obtain ⟨a, rfl⟩ := hv.real; obtain ⟨b, rfl⟩ := hw.real
  exact EReal.coe_add a b ▸ Fin'.coe _

theorem Fin'.mul {v w : EReal} (hv : Fin' v) (hw : Fin' w) : Fin' (v * w) := by
  obtain ⟨a, rfl⟩ := hv.real; obtain ⟨b, rfl⟩ := hw.real
  exact EReal.coe_mul a b ▸ Fin'.coe _

theorem Fin'.sum {ι : Type} (s : Finset ι) (f : ι → EReal) (h : ∀ i ∈ s, Fin' (f i)) : Fin' (∑ i ∈ s, f i) := by
  classical
  induction s using Finset.induction_on with
  | empty => rw [Finset.sum_empty]; exact Fin'.coe 0
  | insert a s ha ih =>
    rw [Finset.sum_insert ha]
    exact (h a (Finset.mem_insert_self ..)).add (ih fun i hi => h i (Finset.mem_insert_of_mem hi))

/-- The greatest of finitely many finite numbers, and at least one, is finite. -/
theorem Fin'.max {n : ℕ} (f : Fin (n + 1) → EReal) (h : ∀ i, Fin' (f i)) : Fin' (Finset.univ.fold max ⊥ f) := by
  constructor
  · refine ne_top_of_lt (b := ⊤) ((Finset.fold_max_lt _).2 ⟨bot_lt_top, fun i _ => lt_top_iff_ne_top.2 (h i).1⟩)
  · exact (bot_lt_iff_ne_bot.1 ((Finset.lt_fold_max _).2 (.inr ⟨0, Finset.mem_univ _, bot_lt_iff_ne_bot.2 (h 0).2⟩)))

/-- The exponential of a finite number is a positive real. -/
theorem exp_pos {v : EReal} (h : Fin' v) : ∃ r : ℝ, 0 < r ∧ Ideal.exp v = (r : EReal) := by
  obtain ⟨a, rfl⟩ := h.real
  exact ⟨Real.exp a, Real.exp_pos a, rfl⟩

/-- A sum of positive reals over a nonempty type is one. -/
theorem sum_pos {n : ℕ} (f : Fin (n + 1) → EReal) (h : ∀ i, ∃ r : ℝ, 0 < r ∧ f i = (r : EReal)) :
    ∃ r : ℝ, 0 < r ∧ ∑ i, f i = (r : EReal) := by
  choose g hg hf using h
  refine ⟨∑ i, g i, Finset.sum_pos (fun i _ => hg i) Finset.univ_nonempty, ?_⟩
  rw [Finset.sum_congr rfl fun i _ => hf i]
  exact (map_sum (⟨⟨Real.toEReal, EReal.coe_zero⟩, EReal.coe_add⟩ : ℝ →+ EReal) g Finset.univ).symm

theorem log_fin {v : EReal} (h : ∃ r : ℝ, 0 < r ∧ v = (r : EReal)) : Fin' (Ideal.log v) := by
  obtain ⟨r, hr, rfl⟩ := h
  rw [Ideal.log_coe, if_neg (not_le.2 hr)]
  exact Fin'.coe _

/-- Subtracting the maximum and then the logarithm, or their sum at once. -/
theorem sub_sub_of_fin {x L m : EReal} (hx : Fin' x) (hL : Fin' L) (hm : Fin' m) : x - (L + m) = x - m - L := by
  obtain ⟨a, rfl⟩ := hx.real; obtain ⟨b, rfl⟩ := hL.real; obtain ⟨c, rfl⟩ := hm.real
  rw [← EReal.coe_add, ← EReal.coe_sub, ← EReal.coe_sub, ← EReal.coe_sub]
  congr 1
  ring

/-- The log-softmax of a row of finite numbers in its two spellings. -/
theorem log_softmax {n : ℕ} (f : Fin (n + 1) → EReal) (h : ∀ i, Fin' (f i)) (i : Fin (n + 1)) :
    f i - (Ideal.log (∑ k, Ideal.exp (f k - Finset.univ.fold max ⊥ f)) + Finset.univ.fold max ⊥ f)
      = f i - Finset.univ.fold max ⊥ f - Ideal.log (∑ k, Ideal.exp (f k - Finset.univ.fold max ⊥ f)) := by
  have hm := Fin'.max f h
  refine sub_sub_of_fin (h i) (log_fin (sum_pos _ fun k => exp_pos ?_)) hm
  obtain ⟨a, ha⟩ := (h k).real
  obtain ⟨b, hb⟩ := hm.real
  rw [ha, hb, ← EReal.coe_sub]
  exact Fin'.coe _

end Cert.Sums

end
-- ==== Proof.Ideal.Sum.lean ====
/-
  The sum of the sixteen accumulators of a column group, over the extended reals: every row is in it once, in the row of its segment number.
-/
module

public import proofs.«01_k».proof.Proof.Ideal.Main
public import proofs.«01_k».proof.Proof.Sums

@[expose] public section

noncomputable section

namespace Cert.KernelIdeal.Prf

open Cert.KernelIdeal Cert.KernelIdeal.Gen
open Idealize.ShloMosaic
open Idealize.ShloMosaic.ValueIdx
open scoped BigOperators

/-- What row `n` adds to element `p` of an accumulator. -/
def rowAt (sg : Nat → BitVec 32) (x : Nat → Nat → EReal) (p : S512x128.Idx) (n : Nat) : EReal :=
  if (p 0).val = (sg n).toNat then x n (p 1).val else 0

theorem accRows_sum (sg : Nat → BitVec 32) (x : Nat → Nat → Elt Ideal .f32) (A : Vec Ideal S512x128 .f32) (n : Nat) (p : S512x128.Idx) :
    accRows (F := Ideal) sg x A n p = (A p + ∑ i ∈ Finset.range n, rowAt sg x p i : EReal) := by
  induction n with
  | zero => rw [Finset.range_zero, Finset.sum_empty, add_zero]; rfl
  | succ n ih =>
    rw [Finset.sum_range_succ, ← add_assoc, ← ih]
    show (if _ then _ else _) = _
    unfold rowAt
    split
    · rfl
    · exact (add_zero _).symm

theorem accTile_sum (sg : Nat → BitVec 32) (x : Nat → Nat → Elt Ideal .f32) (r k : Nat) (p : S512x128.Idx) :
    accTile (F := Ideal) sg x r k p = (∑ i ∈ Finset.range k,
      (if r + 16 * i < 625 then ∑ j ∈ Finset.range 80, rowAt sg x p (80 * (r + 16 * i) + j) else 0) : EReal) := by
  induction k with
  | zero => rw [Finset.range_zero, Finset.sum_empty]; exact Ideal.ofBits_zero_f32
  | succ k ih =>
    rw [Finset.sum_range_succ, ← ih]
    show (if r + 16 * k < 625 then accRows _ _ (accTile sg x r k) 80 else accTile sg x r k) p = _
    split
    · exact accRows_sum ..
    · exact (add_zero _).symm

/-- The sixteen accumulators' sum. -/
theorem parts_sum (X : Vec Ideal S50000x256 .f32) (I : Vec Ideal S50000 .i32) (g : Fin 512) (c : Fin 256) :
    (∑ r : Fin 16, partsOf X I (ix3 r g c) : EReal) = ∑ n : Fin 50000, if (I (ix1 n)).toNat = g.val then X (ix2 n c) else (0 : EReal) := by
  have h : ∀ r : Fin 16, partsOf X I (ix3 r g c) = (∑ i ∈ Finset.range 40, (if r.val + 16 * i < 625 then ∑ j ∈ Finset.range 80,
      rowAt (sAt (F := Ideal) I) (fun n c' => xAt X n (128 * (c.val / 128) + c')) (ix2 g ⟨c.val % 128, Nat.mod_lt _ (by omega)⟩)
        (80 * (r.val + 16 * i) + j) else 0) : EReal) := fun r => accTile_sum ..
  rw [Finset.sum_congr rfl fun r _ => h r, Sums.sum_workers]
  refine Finset.sum_congr rfl fun n _ => ?_
  have hn : n.val % 50000 = n.val := Nat.mod_eq_of_lt n.isLt
  have hc : (128 * (c.val / 128) + c.val % 128) % 256 = c.val := by have := c.isLt; omega
  have e1 : sAt (F := Ideal) I n.val = I (ix1 n) := congrArg (fun k => I (ix1 k)) (Fin.ext hn)
  have e2 : xAt X n.val (128 * (c.val / 128) + c.val % 128) = X (ix2 n c) := congrArg₂ (fun k l => X (ix2 k l)) (Fin.ext hn) (Fin.ext hc)
  show (if g.val = (sAt (F := Ideal) I n.val).toNat then xAt X n.val (128 * (c.val / 128) + c.val % 128) else (0 : EReal)) = _
  rw [e1, e2]
  exact if_congr eq_comm rfl rfl

end Cert.KernelIdeal.Prf

end
-- ==== Proof.Ideal.Softmax.lean ====
/-
  The log-softmax of the TensorCore region over the extended reals, element by element.
-/
module

public import proofs.«01_k».proof.Proof.Gen.KernelIdeal.Skeleton
public import proofs.«01_k».proof.Proof.Sums
public import Idealize.ShloMosaic.Lib.Pointwise

@[expose] public section

noncomputable section

namespace Cert.KernelIdeal.Prf

open Cert.KernelIdeal Cert.KernelIdeal.Gen
open Idealize.ShloMosaic
open scoped BigOperators

/-- The region's logits. -/
def klogits (v0 : FVec Ideal S16x512x256 .f32) (v3 : FVec Ideal S10x256 .f32) (v5 : FVec Ideal S1x10 .f32) : FVec Ideal S512x10 .f32 :=
  addf (matmul dot_S512x256_S10x256_S512x10_1_1_0_0_n_n (some .fp32)
      (multiReduction .add [0] S512x256 (shapeCast S16x512x256 v0 shapeCasts_S16x512x256_S16x512x256) 0x00000000#32
        reduces_S16x512x256_S512x256 (.inl rfl) rfl) v3 (constant S512x10 .f32 0x00000000#32))
    (broadcastTo S512x10 (shapeCast S1x10 v5 shapeCasts_S1x10_S1x10) broadcasts_S1x10_S512x10)

/-- A row's maxima. -/
def kmax (y : FVec Ideal S512x10 .f32) : FVec Ideal S512x1 .f32 :=
  shapeCast S512x1 (multiReduction .maximumf [1] S512 y 0xFF800000#32 reduces_S512x10_S512 (.inl rfl) rfl) shapeCasts_S512_S512x1

/-- The region's log-softmax, from the logits and the maxima. -/
def knormed (y : FVec Ideal S512x10 .f32) (m : FVec Ideal S512x1 .f32) : FVec Ideal S512x10 .f32 :=
  subf y (broadcastTo S512x10 (addf (log (shapeCast S512x1 (multiReduction .add [1] S512
    (exp (subf y (broadcastTo S512x10 m broadcasts_S512x1_S512x10))) 0x00000000#32 reduces_S512x10_S512 (.inl rfl) rfl)
      shapeCasts_S512_S512x1)) m) broadcasts_S512x1_S512x10)

theorem pay_split (v0 : FVec Ideal S16x512x256 .f32) (v3 : FVec Ideal S10x256 .f32) (v5 : FVec Ideal S1x10 .f32) :
    k1_pay1 (F := Ideal) v0 v3 v5 = knormed (klogits v0 v3 v5) (kmax (klogits v0 v3 v5)) := rfl

theorem klogits_apply (v0 : FVec Ideal S16x512x256 .f32) (v3 : FVec Ideal S10x256 .f32) (v5 : FVec Ideal S1x10 .f32) (g : Fin 512) (l : Fin 10) :
    klogits v0 v3 v5 (ix2 g l) = ((∑ k : Fin 256, (∑ r : Fin 16, v0 (ix3 r g k)) * v3 (ix2 l k)) + v5 (ix2 0 l) : EReal) := by
  pointwise [klogits]

theorem kmax_apply (y : FVec Ideal S512x10 .f32) (g : Fin 512) :
    kmax y (ix2 g 0) = (Finset.univ.fold max ⊥ fun k : Fin 10 => y (ix2 g k) : EReal) := by
  pointwise [kmax]
  rw [Sums.ofBits_bot]

theorem knormed_apply (y : FVec Ideal S512x10 .f32) (m : FVec Ideal S512x1 .f32) (g : Fin 512) (l : Fin 10) :
    knormed y m (ix2 g l) = (y (ix2 g l) - (Ideal.log (∑ k : Fin 10, Ideal.exp (y (ix2 g k) - m (ix2 g 0))) + m (ix2 g 0)) : EReal) := by
  pointwise [knormed]

end Cert.KernelIdeal.Prf

end
-- ==== Proof.Ref.lean ====
/-
  The reference's result over the extended reals, element by element: its scatter as a sum over the rows, and its log-softmax.
-/
module

public import proofs.«01_k».proof.Proof.Gen.ReferenceIdeal.Run
public import proofs.«01_k».proof.Proof.Sums
public import Idealize.ShloMosaic.Lib.Pointwise

@[expose] public section

noncomputable section

namespace Cert.ReferenceIdeal.Prf

open Cert.ReferenceIdeal Cert.ReferenceIdeal.Gen
open Idealize.ShloMosaic
open scoped BigOperators

/-- The reference's pooled rows. -/
def pooled (x : FVec Ideal S50000x256 .f32) (I : IVec S50000 32) : FVec Ideal S512x256 .f32 :=
  Host.scatterAdd scatter_S512x256_S50000x1_S50000x256_1_0_0_1 (broadcastInDim S512x256 ![] bcast_S_S512x256 (constant S_ .f32 0x00000000#32))
    (broadcastInDim S50000x1 ![0] bcast_S50000_S50000x1_0 I) x

/-- Where row `n`, column `c` of the scatter goes: to the row of its segment number, in its own column. -/
theorem result_iff (I : IVec S50000 32) (hI : ∀ j, (I j).toNat < 512) (n : Fin 50000) (c : Fin 256) (i : S512x256.Idx) :
    scatter_S512x256_S50000x1_S50000x256_1_0_0_1.resultIdx? (ix2 n c) (broadcastInDim S50000x1 ![0] bcast_S50000_S50000x1_0 I) = some i
      ↔ (I (ix1 n)).toNat = (i 0).val ∧ c.val = (i 1).val := by
  have hw : broadcastInDim S50000x1 ![0] bcast_S50000_S50000x1_0 I
      (scatter_S512x256_S50000x1_S50000x256_1_0_0_1.siIdx (ix2 n c) ⟨0, by decide⟩) = I (ix1 n) := by
    refine congrArg I ?_
    funext a
    match a with
    | ⟨0, _⟩ => rfl
  have hlt := hI (ix1 n)
  have ht : (I (ix1 n)).toInt = ((I (ix1 n)).toNat : Int) := BitVec.toInt_eq_toNat_of_lt (by omega)
  have s0 : scatter_S512x256_S50000x1_S50000x256_1_0_0_1.start (ix2 n c) (broadcastInDim S50000x1 ![0] bcast_S50000_S50000x1_0 I) 0
      = ((I (ix1 n)).toNat : Int) := (congrArg BitVec.toInt hw).trans ht
  have s1 : scatter_S512x256_S50000x1_S50000x256_1_0_0_1.start (ix2 n c) (broadcastInDim S50000x1 ![0] bcast_S50000_S50000x1_0 I) 1 = 0 := rfl
  have w0 : scatter_S512x256_S50000x1_S50000x256_1_0_0_1.window (ix2 n c) 0 = 0 := rfl
  have w1 : scatter_S512x256_S50000x1_S50000x256_1_0_0_1.window (ix2 n c) 1 = c.val := rfl
  have hall : ∀ a, 0 ≤ scatter_S512x256_S50000x1_S50000x256_1_0_0_1.start (ix2 n c) (broadcastInDim S50000x1 ![0] bcast_S50000_S50000x1_0 I) a
        + scatter_S512x256_S50000x1_S50000x256_1_0_0_1.window (ix2 n c) a
      ∧ scatter_S512x256_S50000x1_S50000x256_1_0_0_1.start (ix2 n c) (broadcastInDim S50000x1 ![0] bcast_S50000_S50000x1_0 I) a
        + scatter_S512x256_S50000x1_S50000x256_1_0_0_1.window (ix2 n c) a < S512x256.size a := by
    intro a
    match a with
    | ⟨0, _⟩ =>
      rw [show (⟨0, _⟩ : Fin S512x256.rank) = 0 from rfl, s0, w0]
      exact ⟨by omega, show _ < ((512 : Nat) : Int) by omega⟩
    | ⟨1, _⟩ =>
      rw [show (⟨1, _⟩ : Fin S512x256.rank) = 1 from rfl, s1, w1]
      have := c.isLt
      exact ⟨by omega, show _ < ((256 : Nat) : Int) by omega⟩
  have t0 : (scatter_S512x256_S50000x1_S50000x256_1_0_0_1.start (ix2 n c) (broadcastInDim S50000x1 ![0] bcast_S50000_S50000x1_0 I) 0
      + scatter_S512x256_S50000x1_S50000x256_1_0_0_1.window (ix2 n c) 0).toNat = (I (ix1 n)).toNat := by rw [s0, w0]; omega
  have t1 : (scatter_S512x256_S50000x1_S50000x256_1_0_0_1.start (ix2 n c) (broadcastInDim S50000x1 ![0] bcast_S50000_S50000x1_0 I) 1
      + scatter_S512x256_S50000x1_S50000x256_1_0_0_1.window (ix2 n c) 1).toNat = c.val := by rw [s1, w1]; omega
  unfold ScatterDims.resultIdx?
  rw [dif_pos hall, Option.some_inj]
  constructor
  · rintro rfl
    exact ⟨t0.symm, t1.symm⟩
  · rintro ⟨e0, e1⟩
    funext a
    match a with
    | ⟨0, _⟩ => exact Fin.ext (t0.trans e0)
    | ⟨1, _⟩ => exact Fin.ext (t1.trans e1)

/-- A pooled row is the sum of the rows that have its segment number. -/
theorem pooled_sum (x : FVec Ideal S50000x256 .f32) (I : IVec S50000 32) (hI : ∀ j, (I j).toNat < 512) (g : Fin 512) (c : Fin 256) :
    pooled x I (ix2 g c) = ∑ n : Fin 50000, if (I (ix1 n)).toNat = g.val then x (ix2 n c) else (0 : EReal) := by
  classical
  have h0 : broadcastInDim S512x256 ![] bcast_S_S512x256 (constant (F := Ideal) S_ .f32 0x00000000#32) (ix2 g c) = (0 : EReal) :=
    Ideal.ofBits_zero_f32
  refine Eq.trans (show pooled x I (ix2 g c) = (broadcastInDim S512x256 ![] bcast_S_S512x256 (constant (F := Ideal) S_ .f32 0x00000000#32) (ix2 g c)
    + ∑ j ∈ Finset.univ.filter (fun j => scatter_S512x256_S50000x1_S50000x256_1_0_0_1.resultIdx? j
        (broadcastInDim S50000x1 ![0] bcast_S50000_S50000x1_0 I) = some (ix2 g c)), x j : EReal) from rfl) ?_
  rw [h0, zero_add, Finset.sum_filter, sum_idx2]
  refine Finset.sum_congr rfl fun n _ => ?_
  simp only [result_iff I hI]
  by_cases h : (I (ix1 n)).toNat = g.val
  · rw [if_pos h, Finset.sum_eq_single c]
    · exact if_pos ⟨h, rfl⟩
    · exact fun c' _ hc => if_neg fun e => hc (Fin.ext e.2)
    · exact fun e => absurd (Finset.mem_univ c) e
  · rw [if_neg h]
    exact Finset.sum_eq_zero fun c' _ => if_neg fun e => h e.1

/-- The reference's logits, from the pooled rows. -/
def logits (p : FVec Ideal S512x256 .f32) (w : FVec Ideal S10x256 .f32) (b : FVec Ideal S10 .f32) : FVec Ideal S512x10 .f32 :=
  addf (Host.dotGeneral dot_S512x256_S256x10_S512x10_1_0_0_1_n_n none p (transpose S256x10 [1, 0] w transposes_S10x256_S256x10_1_0))
    (broadcastInDim S512x10 ![0, 1] bcast_S1x10_S512x10_0_1 (broadcastInDim S1x10 ![1] bcast_S10_S1x10_1 b))

/-- The reference's rows less their maxima. -/
def shifted (l : FVec Ideal S512x10 .f32) : FVec Ideal S512x10 .f32 :=
  subf l (broadcastInDim S512x10 ![0, 1] bcast_S512x1_S512x10_0_1 (broadcastInDim S512x1 ![0] bcast_S512_S512x1_0
    (maximumf (broadcastInDim S512 ![] bcast_S_S512 (constant S_ .f32 0xFF800000#32))
      (Host.reduce FloatOps.maximumf l (constant S_ .f32 0xFF800000#32) reducesTo_S512x10_S512_d1 h_S_))))

/-- The reference's log-softmax, from the shifted rows. -/
def normed (s : FVec Ideal S512x10 .f32) : FVec Ideal S512x10 .f32 :=
  subf s (broadcastInDim S512x10 ![0, 1] bcast_S512x1_S512x10_0_1 (Host.log (broadcastInDim S512x1 ![0] bcast_S512_S512x1_0
    (Host.reduceAdd (Host.exp s) (constant S_ .f32 0x00000000#32) reducesTo_S512x10_S512_d1 h_S_))))

theorem logits_apply (p : FVec Ideal S512x256 .f32) (w : FVec Ideal S10x256 .f32) (b : FVec Ideal S10 .f32) (g : Fin 512) (l : Fin 10) :
    logits p w b (ix2 g l) = ((∑ k : Fin 256, p (ix2 g k) * w (ix2 l k)) + b (ix1 l) : EReal) := by
  pointwise [logits]

theorem shifted_apply (y : FVec Ideal S512x10 .f32) (g : Fin 512) (l : Fin 10) :
    shifted y (ix2 g l) = (y (ix2 g l) - Finset.univ.fold max ⊥ fun k : Fin 10 => y (ix2 g k) : EReal) := by
  pointwise [shifted]
  rw [Sums.ofBits_bot, max_eq_right bot_le]

theorem normed_apply (s : FVec Ideal S512x10 .f32) (g : Fin 512) (l : Fin 10) :
    normed s (ix2 g l) = (s (ix2 g l) - Ideal.log (∑ k : Fin 10, Ideal.exp (s (ix2 g k))) : EReal) := by
  pointwise [normed]

end Cert.ReferenceIdeal.Prf

end
-- ==== Proof.Value.lean ====
/-
  The kernel's result is the reference's, over the extended reals: the parts of the sixteen tiles add up to the reference's pooled rows, and
  the two log-softmaxes agree where the logits are finite, which they are when the inputs are.
-/
module

public import proofs.«01_k».proof.Proof.Ideal.Sum
public import proofs.«01_k».proof.Proof.Ideal.Softmax
public import proofs.«01_k».proof.Proof.Ref
public import Idealize.ShloMosaic.Lib.Pointwise.IndexBridge

@[expose] public section

noncomputable section

namespace Cert.Value

open Idealize.ShloMosaic
open Cert.KernelIdeal (S50000x256 S50000 S10x256 S10 S1x10 S512x256 S512x10)
open Cert.KernelIdeal.Prf (partsOf klogits kmax knormed)
open Cert.ReferenceIdeal.Prf (pooled logits shifted normed)
open Cert.Sums
open scoped BigOperators

/-- The kernel's result from the program's arguments. -/
def kernelOut (x : FVec Ideal S50000x256 .f32) (I : IVec S50000 32) (w : FVec Ideal S10x256 .f32) (b : FVec Ideal S10 .f32) :
    FVec Ideal S512x10 .f32 :=
  Cert.KernelIdeal.Gen.k1_pay1 (F := Ideal) (partsOf (F := Ideal) x I) w (shapeCast S1x10 b Cert.KernelIdeal.Gen.shapeCasts_S10_S1x10)

/-- The reference's. -/
def refOut (x : FVec Ideal S50000x256 .f32) (I : IVec S50000 32) (w : FVec Ideal S10x256 .f32) (b : FVec Ideal S10 .f32) :
    FVec Ideal S512x10 .f32 := normed (shifted (logits (pooled x I) w b))

/-- The bias as a row. -/
theorem bias_apply (b : FVec Ideal S10 .f32) (l : Fin 10) :
    shapeCast S1x10 b Cert.KernelIdeal.Gen.shapeCasts_S10_S1x10 (ix2 0 l) = b (ix1 l) := by
  pointwise

/-- The parts add up to the reference's pooled rows. -/
theorem parts_pooled (x : FVec Ideal S50000x256 .f32) (I : IVec S50000 32) (hI : ∀ j, (I j).toNat < 512) (g : Fin 512) (k : Fin 256) :
    (∑ r : Fin 16, partsOf (F := Ideal) x I (ix3 r g k) : EReal) = pooled x I (ix2 g k) := by
  rw [Cert.ReferenceIdeal.Prf.pooled_sum x I hI]
  simp only [ix3_eq_valueIdx, ix2_eq_valueIdx, ix1_eq_valueIdx]
  exact Cert.KernelIdeal.Prf.parts_sum x I g k

theorem logits_eq (x : FVec Ideal S50000x256 .f32) (I : IVec S50000 32) (w : FVec Ideal S10x256 .f32) (b : FVec Ideal S10 .f32)
    (hI : ∀ j, (I j).toNat < 512) :
    klogits (partsOf (F := Ideal) x I) w (shapeCast S1x10 b Cert.KernelIdeal.Gen.shapeCasts_S10_S1x10) = logits (pooled x I) w b := by
  funext p
  obtain ⟨g, l, rfl⟩ : ∃ (g : Fin 512) (l : Fin 10), p = ix2 g l := ⟨p 0, p 1, eq_ix2 p⟩
  rw [Cert.KernelIdeal.Prf.klogits_apply, Cert.ReferenceIdeal.Prf.logits_apply, bias_apply]
  exact congrArg (fun s : EReal => s + b (ix1 l)) (Finset.sum_congr rfl fun k _ =>
    congrArg (fun s : EReal => s * w (ix2 l k)) (parts_pooled x I hI g k))

/-- The logits are finite. -/
theorem logits_fin (x : FVec Ideal S50000x256 .f32) (I : IVec S50000 32) (w : FVec Ideal S10x256 .f32) (b : FVec Ideal S10 .f32)
    (hI : ∀ j, (I j).toNat < 512) (hx : ∀ j, Fin' (x j)) (hw : ∀ j, Fin' (w j)) (hb : ∀ j, Fin' (b j)) (g : Fin 512) (l : Fin 10) :
    Fin' (logits (pooled x I) w b (ix2 g l)) := by
  rw [Cert.ReferenceIdeal.Prf.logits_apply]
  refine (Fin'.sum _ _ fun k _ => Fin'.mul ?_ (hw _)).add (hb _)
  rw [Cert.ReferenceIdeal.Prf.pooled_sum x I hI]
  refine Fin'.sum _ _ fun n _ => ?_
  split
  · exact hx _
  · exact Fin'.coe 0

theorem out_eq (x : FVec Ideal S50000x256 .f32) (I : IVec S50000 32) (w : FVec Ideal S10x256 .f32) (b : FVec Ideal S10 .f32)
    (hI : ∀ j, (I j).toNat < 512) (hx : ∀ j, Fin' (x j)) (hw : ∀ j, Fin' (w j)) (hb : ∀ j, Fin' (b j)) :
    kernelOut x I w b = refOut x I w b := by
  have hf := logits_fin x I w b hI hx hw hb
  unfold kernelOut refOut
  rw [Cert.KernelIdeal.Prf.pay_split, logits_eq x I w b hI]
  generalize logits (pooled x I) w b = y at hf ⊢
  funext p
  obtain ⟨g, l, rfl⟩ : ∃ (g : Fin 512) (l : Fin 10), p = ix2 g l := ⟨p 0, p 1, eq_ix2 p⟩
  rw [Cert.KernelIdeal.Prf.knormed_apply, Cert.KernelIdeal.Prf.kmax_apply, Cert.ReferenceIdeal.Prf.normed_apply]
  simp only [Cert.ReferenceIdeal.Prf.shifted_apply]
  exact log_softmax (fun k : Fin 10 => y (ix2 g k)) (hf g) l

end Cert.Value

end
-- ==== Proof.lean ====
/-
  The certificate of a segment-sum pooling kernel: tiles add the rows of `x` into per-segment accumulators, and a region on the
  TensorCore sums the tiles' parts, applies the linear head and takes the log-softmax.

  The kernel runs under its precondition (each segment number is below 512), at bits and at extended reals, with its arguments unchanged
  and every semaphore at zero (Proof/Bits/Frame.lean, Proof/Ideal/Frame.lean); so does the reference. Over the extended reals the two
  results are equal when no input is infinite (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_and_finite
public import proofs.«01_k».proof.Proof.Bits.Frame
public import proofs.«01_k».proof.Proof.Ideal.Frame
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel := fun m g h =>
  Cert.Kernel.Prf.frame_of m g (Cert.Kernel.Prf.ok_of_pre m h)

theorem frame_kernel_ideal : Cert.quiescent_KernelIdeal := fun m g h =>
  Cert.KernelIdeal.Prf.frame_of m g (Cert.KernelIdeal.Prf.ok_of_pre m h)

/-- The stronger precondition of the claim on values gives the segment numbers' range too. -/
theorem frame_kernel_ideal_finite : Cert.quiescent_KernelIdeal_pre_in_range_and_finite := fun m g h =>
  Cert.KernelIdeal.Prf.frame_of m g fun d _ => (PreRead.all_of _ _ _ _ (h d)).1 _

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem frame_reference_finite : Cert.quiescent_ReferenceIdeal_pre_in_range_and_finite := fun m g _ =>
  frame_reference m g trivial

theorem same_value : Cert.algebraic_KernelIdeal_ReferenceIdeal_pre_in_range_and_finite := fun m g m' g' h he =>
  ⟨fun c => Cert.KernelIdeal.Prf.outM m c,
    (θ_run _ _ _).mono (fun _ hr c => ⟨(hr.1 c).2.2.2.2, (hr.1 c).1, (hr.1 c).2.1, (hr.1 c).2.2.1, (hr.1 c).2.2.2.1⟩)
      (Cert.KernelIdeal.Prf.run_main m g fun d _ => (PreRead.all_of _ _ _ _ (h d)).1 _),
    (θ_run _ _ _).mono (fun r hr c => ⟨by
        obtain ⟨e0, e1, e2, e3⟩ := he c
        obtain ⟨hI, hx, hw, hb⟩ := PreRead.all_of _ _ _ _ (h c)
        refine (hr c).1.trans ?_
        rw [e0, e1, e2, e3]
        exact (Cert.Value.out_eq _ _ _ _ hI hx hw hb).symm, (hr c).2⟩) (Cert.ReferenceIdeal.Value.run m' g')⟩

theorem claim : Cert.Claim :=
  ⟨Cert.Kernel.Gen.facts, Cert.KernelIdeal.Gen.facts, Cert.ReferenceIdeal.Gen.facts, Cert.Pre_in_range.Gen.facts,
    Cert.Pre_in_range_and_finite.Gen.facts, frame_kernel, frame_kernel_ideal, frame_kernel_ideal_finite, frame_reference,
    frame_reference_finite, trivial, same_value⟩

end Cert.Proof

end
